-- ==== Defs.lean ====
def Pre_Kernel (m : (ℓ : Loc Cert.Kernel.nD Cert.Kernel.τ Cert.Kernel.sig) → Buf (Elt Bits) ℓ) : Prop :=
  True

def Pre_Kernel_one_best [hPre_one_best : Cert.Pre_one_best.Facts] (m : (ℓ : Loc Cert.Kernel.nD Cert.Kernel.τ Cert.Kernel.sig) → Buf (Elt Bits) ℓ) : Prop :=
  ∀ c : Dev Cert.Kernel.nD,
    (Cert.Pre_one_best.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_one_best : Cert.Pre_one_best.Facts] (m : (ℓ : Loc Cert.KernelIdeal.nD Cert.KernelIdeal.τ Cert.KernelIdeal.sig) → Buf (Elt Ideal) ℓ) : Prop :=
  ∀ c : Dev Cert.KernelIdeal.nD,
    (Cert.Pre_one_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_best [hPre_one_best : Cert.Pre_one_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_one_best [hKernel : Cert.Kernel.Facts] [hPre_one_best : Cert.Pre_one_best.Facts] : Prop :=
  ∀ (m : (ℓ : Loc Cert.Kernel.nD Cert.Kernel.τ Cert.Kernel.sig) → Buf (Elt Bits) ℓ) (g : Dev Cert.Kernel.nD → PrngReg), Pre_Kernel_one_best m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_one_best : Cert.Pre_one_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_one_best [hReferenceIdeal : Cert.ReferenceIdeal.Facts] [hPre_one_best : Cert.Pre_one_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_best : Cert.Pre_one_best.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_one_best : Cert.Pre_one_best.Facts),
    quiescent_Kernel (hKernel := hKernel)
    ∧ quiescent_Kernel_pre_one_best (hKernel := hKernel) (hPre_one_best := hPre_one_best)
    ∧ quiescent_KernelIdeal (hKernelIdeal := hKernelIdeal) (hPre_one_best := hPre_one_best)
    ∧ quiescent_ReferenceIdeal (hReferenceIdeal := hReferenceIdeal)
    ∧ quiescent_ReferenceIdeal_pre_one_best (hReferenceIdeal := hReferenceIdeal) (hPre_one_best := hPre_one_best)
    ∧ preserves_Kernel_KernelIdeal
    ∧ algebraic_KernelIdeal_ReferenceIdeal (hKernelIdeal := hKernelIdeal) (hReferenceIdeal := hReferenceIdeal) (hPre_one_best := hPre_one_best)
-- ==== Pre_one_best.lean ====
abbrev S4x4096x2048 : Shape := ⟨3, ![4, 4096, 2048]⟩
abbrev S64 : Shape := ⟨1, ![64]⟩
abbrev S2048x64 : Shape := ⟨2, ![2048, 64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x4096x1 : Shape := ⟨3, ![4, 4096, 1]⟩

class Facts : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S64 : S_.BroadcastsInDim S64 (![] : Fin 0 → Fin S64.rank)
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  natLt_1_32 : 1 < 32
  bcast_S_S4x4096x1 : S_.BroadcastsInDim S4x4096x1 (![] : Fin 0 → Fin S4x4096x1.rank)
  dot_S4x4096x2048_S2048x64_S4x4096x64_2_0_01_1_n_n_wf : DotDims.WF S4x4096x2048 S2048x64 S4x4096x64 [2] [0] [0, 1] [1] [] []

variable [Facts]

def dot_S4x4096x2048_S2048x64_S4x4096x64_2_0_01_1_n_n : DotDims S4x4096x2048 S2048x64 S4x4096x64 where
  lhsContracting := [2]
  rhsContracting := [0]
  lhsNonContracting := [0, 1]
  rhsNonContracting := [1]
  lhsBatch := []
  rhsBatch := []
  wf := dot_S4x4096x2048_S2048x64_S4x4096x64_2_0_01_1_n_n_wf
def fn_clip {F : FTy → Type} [FloatOps F] (arg0 : FVec F S64 .f32) (arg1 : FVec F S_ .f32) (arg2 : FVec F S_ .f32) : FVec F S64 .f32 :=
  let v0 : FVec F S_ .f32 := id arg1
  let v1 : FVec F S64 .f32 := broadcastInDim S64 ![] bcast_S_S64 v0
  let v2 : FVec F S64 .f32 := maximumf v1 arg0
  let v3 : FVec F S_ .f32 := id arg2
  let v4 : FVec F S64 .f32 := broadcastInDim S64 ![] bcast_S_S64 v3
  let v5 : FVec F S64 .f32 := minimumf v4 v2
  v5

def fn_part1 {F : FTy → Type} [FloatOps F] (main_v9 : FVec F S4x4096x1 .f32) (main_v16 : IVec S4x4096x1 1) (main_v17 : FVec F S4x4096x1 .f32) : IVec S4x4096x1 1 :=
  let main_v18 : IVec S4x4096x1 1 := cmpf .olt main_v9 main_v17
  let main_v19 : IVec S4x4096x1 1 := andi main_v16 main_v18
  main_v19

def fn {F : FTy → Type} [FloatOps F] (main_arg0 : FVec F S4x4096x2048 .f32) (main_arg1 : FVec F S64 .f32) (main_arg2 : FVec F S64 .f32) (main_arg3 : FVec F S2048x64 .f32) : IVec S4x4096x1 1 :=
  let main_v0 : FVec F S4x4096x64 .f32 := (fun l r => Host.dotGeneral dot_S4x4096x2048_S2048x64_S4x4096x64_2_0_01_1_n_n none l r) main_arg0 main_arg3
  let main_v1 : FVec F S1x1x64 .f32 := broadcastInDim S1x1x64 ![2] bcast_S64_S1x1x64_2 main_arg1
  let main_v2 : FVec F S4x4096x64 .f32 := broadcastInDim S4x4096x64 ![0, 1, 2] bcast_S1x1x64_S4x4096x64_0_1_2 main_v1
  let main_v3 : FVec F S4x4096x64 .f32 := addf main_v0 main_v2
  let main_cst : FVec F S_ .f32 := constant S_ .f32 0x3DCCCCCD#32
  let main_cst_0 : FVec F S_ .f32 := constant S_ .f32 0x41200000#32
  let main_v4 : FVec F S64 .f32 := fn_clip (F := F) main_arg2 main_cst main_cst_0
  let main_v5 : FVec F S1x1x64 .f32 := broadcastInDim S1x1x64 ![2] bcast_S64_S1x1x64_2 main_v4
  let main_v6 : FVec F S4x4096x64 .f32 := broadcastInDim S4x4096x64 ![0, 1, 2] bcast_S1x1x64_S4x4096x64_0_1_2 main_v5
  let main_v7 : FVec F S4x4096x64 .f32 := Host.divf main_v3 main_v6
  let main_cst_1 : FVec F S_ .f32 := constant S_ .f32 0xFF800000#32
  let main_v8 : FVec F S4x4096 .f32 := (fun x v => Host.reduce FloatOps.maximumf x v reducesTo_S4x4096x64_S4x4096_d2 h_S_) main_v7 main_cst_1
  let main_v9 : FVec F S4x4096x1 .f32 := broadcastInDim S4x4096x1 ![0, 1] bcast_S4x4096_S4x4096x1_0_1 main_v8
  let main_v10 : FVec F S4x4096x64 .f32 := broadcastInDim S4x4096x64 ![0, 1, 2] bcast_S4x4096x1_S4x4096x64_0_1_2 main_v9
  let main_v11 : IVec S4x4096x64 1 := cmpf .oeq main_v7 main_v10
  let main_v12 : IVec S4x4096x64 32 := (extui 32 · natLt_1_32) main_v11
  let main_c : IVec S_ 32 := constantI S_ 32 0#32
  let main_v13 : IVec S4x4096 32 := (fun x v => Host.reduce IntOp.addi x v reducesTo_S4x4096x64_S4x4096_d2 h_S_) main_v12 main_c
  let main_v14 : IVec S4x4096x1 32 := broadcastInDim S4x4096x1 ![0, 1] bcast_S4x4096_S4x4096x1_0_1 main_v13
  let main_c_2 : IVec S_ 32 := constantI S_ 32 1#32
  let main_v15 : IVec S4x4096x1 32 := broadcastInDim S4x4096x1 ![] bcast_S_S4x4096x1 main_c_2
  let main_v16 : IVec S4x4096x1 1 := cmpi .eq main_v14 main_v15
  let main_cst_3 : FVec F S_ .f32 := constant S_ .f32 0x7F800000#32
  let main_v17 : FVec F S4x4096x1 .f32 := broadcastInDim S4x4096x1 ![] bcast_S_S4x4096x1 main_cst_3
  fn_part1 (F := F) main_v9 main_v16 main_v17
-- ==== Kernel.lean ====
abbrev S4x4096x2048 : Shape := ⟨3, ![4, 4096, 2048]⟩
abbrev S64 : Shape := ⟨1, ![64]⟩
abbrev S2048x64 : Shape := ⟨2, ![2048, 64]⟩
abbrev S16384x2048 : Shape := ⟨2, ![16384, 2048]⟩
abbrev S1x64 : Shape := ⟨2, ![1, 64]⟩
abbrev S16384x1 : Shape := ⟨2, ![16384, 1]⟩
abbrev S16384x64 : Shape := ⟨2, ![16384, 64]⟩
abbrev S1x1 : Shape := ⟨2, ![1, 1]⟩
abbrev S2048x2048 : Shape := ⟨2, ![2048, 2048]⟩
abbrev S2048x1 : Shape := ⟨2, ![2048, 1]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1x64 : Shape := ⟨3, ![1, 1, 64]⟩
abbrev S4x4096x1 : Shape := ⟨3, ![4, 4096, 1]⟩
abbrev S4x4096x64 : Shape := ⟨3, ![4, 4096, 64]⟩
abbrev S_ : Shape := ⟨0, ![]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S64, .f32⟩
  | .hbm, ⟨2, _⟩ => ⟨S64, .f32⟩
  | .hbm, ⟨3, _⟩ => ⟨S2048x64, .f32⟩
  | .hbm, ⟨4, _⟩ => ⟨S16384x2048, .f32⟩
  | .hbm, ⟨5, _⟩ => ⟨S1x64, .f32⟩
  | .hbm, ⟨6, _⟩ => ⟨S1x64, .f32⟩
  | .hbm, ⟨7, _⟩ => ⟨S16384x1, .f32⟩
  | .hbm, ⟨8, _⟩ => ⟨S16384x1, .i32⟩
  | .hbm, ⟨9, _⟩ => ⟨S16384x64, .f32⟩
  | .hbm, ⟨10, _⟩ => ⟨S1x1, .f32⟩
  | .hbm, ⟨11, _⟩ => ⟨S4x4096x1, .f32⟩
  | .hbm, ⟨12, _⟩ => ⟨S4x4096x1, .i32⟩
  | .hbm, ⟨13, _⟩ => ⟨S4x4096x64, .f32⟩
  | .hbm, ⟨14, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S1x64, .f32⟩
  | .local _ .vmem, ⟨4, _⟩ => ⟨S1x64, .f32⟩
  | .local _ .vmem, ⟨5, _⟩ => ⟨S2048x1, .f32⟩
  | .local _ .vmem, ⟨6, _⟩ => ⟨S2048x1, .f32⟩
  | .local _ .vmem, ⟨7, _⟩ => ⟨S2048x1, .i32⟩
  | .local _ .vmem, ⟨8, _⟩ => ⟨S2048x1, .i32⟩
  | .local _ .vmem, ⟨9, _⟩ => ⟨S2048x64, .f32⟩
  | .local _ .vmem, ⟨10, _⟩ => ⟨S2048x64, .f32⟩
  | .local _ .vmem, ⟨11, _⟩ => ⟨S1x1, .f32⟩
  | .local _ .vmem, ⟨12, _⟩ => ⟨S1x64, .f32⟩
  | .local _ .vmem, ⟨13, _⟩ => ⟨S1x64, .f32⟩
  | .local _ .vmem, ⟨14, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v182 : BitVec 1 := Scalar.cmpi .eq arg0 c7_i32
  let v183 : BitVec 32 := Scalar.extui v182
  let c0_i32_60 : BitVec 32 := 0#32
  let v184 : BitVec 1 := Scalar.cmpi .ne v183 c0_i32_60
  v184

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x4096x2048 : Shape := ⟨3, ![4, 4096, 2048]⟩
abbrev S64 : Shape := ⟨1, ![64]⟩
abbrev S2048x64 : Shape := ⟨2, ![2048, 64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x4096x1 : Shape := ⟨3, ![4, 4096, 1]⟩
abbrev S16384 : Shape := ⟨1, ![16384]⟩
abbrev S16384x1 : Shape := ⟨2, ![16384, 1]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64, .f32⟩
  | .hbm, ⟨2, _⟩ => ⟨S64, .f32⟩
  | .hbm, ⟨3, _⟩ => ⟨S2048x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x64, .f32⟩
  | .hbm, ⟨32, _⟩ => ⟨S4x4096x64, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x64, .i32⟩
  | .hbm, ⟨37, _⟩ => ⟨S_, .f32⟩
  | .hbm, ⟨38, _⟩ => ⟨S_, .i32⟩
  | .hbm, ⟨39, _⟩ => ⟨S4x4096, .f32⟩
  | .hbm, ⟨40, _⟩ => ⟨S4x4096, .i32⟩
  | .hbm, ⟨41, _⟩ => ⟨S16384, .i32⟩
  | .hbm, ⟨42, _⟩ => ⟨S_, .i32⟩
  | .hbm, ⟨43, _⟩ => ⟨S64, .i32⟩
  | .hbm, ⟨44, _⟩ => ⟨S_, .i32⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S_, .i32⟩
  | .hbm, ⟨57, _⟩ => ⟨S16384, .i32⟩
  | .hbm, ⟨58, _⟩ => ⟨S64, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .i1⟩
  | .hbm, ⟨80, _⟩ => ⟨S_, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x64, .f32⟩
  | .hbm, ⟨85, _⟩ => ⟨S4x4096x64, .f32⟩
  | .hbm, ⟨86, _⟩ => ⟨S4x4096x64, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S4x4096x1, .f32⟩
  | .hbm, ⟨91, _⟩ => ⟨S4x4096x1, .f32⟩
  | .hbm, ⟨92, _⟩ => ⟨S4x4096, .f32⟩
  | .hbm, ⟨93, _⟩ => ⟨S4x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S4x4096x1, .i32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_cst : Ref sig .tc := ⟨.hbm, 37, rfl⟩
abbrev main_call1_c : Ref sig .tc := ⟨.hbm, 38, rfl⟩
abbrev main_call1_v1_0 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_cst_13 : Ref sig .tc := ⟨.hbm, 71, rfl⟩
abbrev main_v41 : Ref sig .tc := ⟨.hbm, 72, rfl⟩
abbrev main_cst_14 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_15 : Ref sig .tc := ⟨.hbm, 77, rfl⟩
abbrev main_v45 : Ref sig .tc := ⟨.hbm, 78, rfl⟩
abbrev main_v46 : Ref sig .tc := ⟨.hbm, 79, rfl⟩
abbrev main_cst_16 : Ref sig .tc := ⟨.hbm, 80, rfl⟩
abbrev main_call3_v0 : Ref sig .tc := ⟨.hbm, 81, rfl⟩
abbrev main_call3_v1 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_17 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_18 : Ref sig .tc := ⟨.hbm, 94, rfl⟩
abbrev main_v57 : Ref sig .tc := ⟨.hbm, 95, rfl⟩
abbrev main_cst_19 : Ref sig .tc := ⟨.hbm, 96, rfl⟩
abbrev main_v58 : Ref sig .tc := ⟨.hbm, 97, rfl⟩
abbrev main_cst_20 : Ref sig .tc := ⟨.hbm, 98, rfl⟩
abbrev main_v59 : Ref sig .tc := ⟨.hbm, 99, rfl⟩
abbrev main_cst_21 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩

abbrev nD : Nat := 1
abbrev τ : Topo := Topo.v7x

variable {F : FTy → Type} [FloatOps F]
-- ==== Proof.Row.lean ====
/-
  One token's routing over the extended reals: from its 64 logits, what the kernel's body computes of them and what the
  reference computes, and that the two agree where one expert holds the largest logit alone and that logit is finite.
-/
module

public import Idealize.ShloMosaic.PureOps.Ideal
public import Idealize.ShloMosaic.PureOps.Ideal.Laws
public import Idealize.ShloMosaic.Lib.IdealHost

@[expose] public section

noncomputable section

namespace Cert.Router

open Idealize.ShloMosaic

/-- A token's logits, one per expert. -/
abbrev Row := Fin 64 → EReal

/-! ## What the kernel computes of a row -/

/-- The largest entry. -/
def top (l : Row) : EReal := Finset.univ.fold max ⊥ l
/-- The softmax's numerators and their sum. -/
def num (l : Row) (e : Fin 64) : EReal := Ideal.exp (l e - top l)
def mass (l : Row) : EReal := ∑ e, num l e
/-- The routing weight: the reciprocal of the mass. -/
def weight (l : Row) : EReal := Ideal.div 1 (mass l)
/-- The probabilities: a numerator times the weight. -/
def prob (l : Row) (e : Fin 64) : EReal := num l e * weight l
/-- The square of the log-sum-exp. -/
def lseSq (l : Row) : EReal := (top l + Ideal.log (mass l)) * (top l + Ideal.log (mass l))

open Classical in
/-- The first expert that holds the largest entry, as a word. -/
def pick (l : Row) : BitVec 32 :=
  BitVec.ofNat 32 (((Finset.univ.filter fun e : Fin 64 => ∀ e', ¬ l e < l e').image fun e => e.val).min.getD 0)

/-! ## What the reference computes of a row -/

/-- The softmax's probabilities by a division. -/
def refProb (l : Row) (e : Fin 64) : EReal := Ideal.div (num l e) (mass l)
/-- What the log-sum-exp takes out: the largest entry where it is finite. -/
def refTop (l : Row) : EReal := if max (top l) (-(top l)) < ⊤ then top l else 0
/-- The log-sum-exp. -/
def refLse (l : Row) : EReal := Ideal.log (∑ e, Ideal.exp (l e - refTop l)) + refTop l

/-! ## A row whose largest entry is finite and held once -/

/-- Expert `b` holds the row's largest entry alone, and that entry is not `⊤`. -/
structure Best (l : Row) (b : Fin 64) : Prop where
  lt : ∀ e, e ≠ b → l e < l b
  ne_top : l b ≠ ⊤

namespace Best
variable {l : Row} {b : Fin 64} (h : Best l b)
include h

theorem le (e : Fin 64) : l e ≤ l b := by
  by_cases he : e = b
  · rw [he]
  · exact (h.lt e he).le

theorem ne_bot : l b ≠ ⊥ := by
  have : ∃ e : Fin 64, e ≠ b := exists_ne b
  obtain ⟨e, he⟩ := this
  exact (lt_of_le_of_lt bot_le (h.lt e he)).ne'

theorem top_eq : top l = l b := by
  apply le_antisymm
  · rw [top, Finset.fold_max_le]; exact ⟨bot_le, fun e _ => h.le e⟩
  · rw [top, Finset.le_fold_max]; exact .inr ⟨b, Finset.mem_univ _, le_rfl⟩

/-- The numerators are reals in `[0, 1]`, 1 at the best expert and below 1 elsewhere. -/
theorem num_real : ∃ g : Fin 64 → ℝ, (∀ e, num l e = (g e : EReal)) ∧ (∀ e, 0 ≤ g e) ∧ g b = 1 ∧ ∀ e, e ≠ b → g e < 1 := by
  obtain ⟨m, hm⟩ : ∃ m : ℝ, l b = (m : EReal) := ⟨(l b).toReal, (EReal.coe_toReal h.ne_top h.ne_bot).symm⟩
  have key : ∀ e, ∃ g : ℝ, num l e = (g : EReal) ∧ 0 ≤ g ∧ (e = b → g = 1) ∧ (e ≠ b → g < 1) := by
    intro e
    have hlt : e ≠ b → l e < (m : EReal) := fun he => hm ▸ h.lt e he
    have heq : e = b → l e = (m : EReal) := fun he => by rw [he, hm]
    have hne : l e ≠ ⊤ := fun ht => by
      have := h.le e; rw [ht, top_le_iff] at this; exact h.ne_top this
    rw [num, h.top_eq, hm]
    generalize l e = y at hlt heq hne
    induction y using EReal.rec with
    | bot => exact ⟨0, by simp, le_rfl, fun he => by simpa using heq he, fun _ => one_pos⟩
    | top => exact absurd rfl hne
    | coe r =>
      refine ⟨Real.exp (r - m), by rw [← EReal.coe_sub, Ideal.exp_coe], (Real.exp_pos _).le, fun he => ?_, fun he => ?_⟩
      · have : r = m := by exact_mod_cast heq he
        rw [this]; simp
      · have : r < m := by exact_mod_cast hlt he
        rw [← Real.exp_zero]; exact Real.exp_lt_exp.2 (by linarith)
  choose g hg h0 h1 h2 using key
  exact ⟨g, hg, h0, h1 b rfl, h2⟩

/-- So the mass is a real that is at least 1. -/
theorem mass_real : ∃ s : ℝ, mass l = (s : EReal) ∧ 1 ≤ s := by
  obtain ⟨g, hg, h0, h1, -⟩ := h.num_real
  refine ⟨∑ e, g e, ?_, ?_⟩
  · rw [mass, Finset.sum_congr rfl fun e _ => hg e]
    exact (map_sum (⟨⟨fun r : ℝ => (r : EReal), EReal.coe_zero⟩, EReal.coe_add⟩ : ℝ →+ EReal) g Finset.univ).symm
  · rw [← h1]; exact Finset.single_le_sum (fun e _ => h0 e) (Finset.mem_univ b)

/-- The division's probabilities are the product's. -/
theorem prob_eq (e : Fin 64) : prob l e = refProb l e := by
  obtain ⟨s, hs, h1⟩ := h.mass_real
  have hne : s ≠ 0 := by linarith
  rw [prob, refProb, weight, hs, Ideal.div_coe hne, Ideal.div_coe hne, one_mul]

/-- The best expert's probability is the weight and every other one is below it. -/
theorem refProb_best : refProb l b = weight l ∧ (∀ e, e ≠ b → refProb l e < weight l) ∧ ⊥ < weight l := by
  obtain ⟨g, hg, h0, h1, h2⟩ := h.num_real
  obtain ⟨s, hs, hs1⟩ := h.mass_real
  have hne : s ≠ 0 := by linarith
  have hw : weight l = ((1 / s : ℝ) : EReal) := by rw [weight, hs, Ideal.div_coe hne, one_mul]
  have hr : ∀ e, refProb l e = ((g e * (1 / s) : ℝ) : EReal) := fun e => by
    rw [refProb, hs, Ideal.div_coe hne, hg, EReal.coe_mul]
  refine ⟨by rw [hr, hw, h1, one_mul], fun e he => ?_, hw ▸ EReal.bot_lt_coe _⟩
  rw [hr, hw, EReal.coe_lt_coe_iff]
  have : 0 < 1 / s := by positivity
  nlinarith [h2 e he]

/-- So the largest probability is the weight. -/
theorem weight_eq : Finset.univ.fold max ⊥ (refProb l) = weight l := by
  obtain ⟨h1, h2, -⟩ := h.refProb_best
  have : Best (refProb l) b → Finset.univ.fold max ⊥ (refProb l) = refProb l b := fun hb => hb.top_eq
  apply le_antisymm
  · rw [Finset.fold_max_le]
    refine ⟨bot_le, fun e _ => ?_⟩
    by_cases he : e = b
    · rw [he, h1]
    · exact (h2 e he).le
  · rw [Finset.le_fold_max]; exact .inr ⟨b, Finset.mem_univ _, h1.ge⟩

/-- The picked expert is the best one. -/
theorem pick_eq : pick l = BitVec.ofNat 32 b.val := by
  classical
  have : (Finset.univ.filter fun e : Fin 64 => ∀ e', ¬ l e < l e') = {b} := by
    ext e
    simp only [Finset.mem_filter, Finset.mem_univ, true_and, Finset.mem_singleton, not_lt]
    refine ⟨fun he => ?_, fun he e' => he ▸ h.le e'⟩
    by_contra hne
    exact absurd (h.lt e hne) (not_lt.2 (he b))
  unfold pick
  rw [show (Finset.univ.filter fun e : Fin 64 => ∀ e', ¬ l e < l e') = {b} by convert this]
  simp
  rfl

/-- The reference's log-sum-exp, squared, is the kernel's. -/
theorem lseSq_eq : refLse l * refLse l = lseSq l := by
  have ht : refTop l = top l := by
    rw [refTop, if_pos]
    rw [h.top_eq, max_lt_iff]
    refine ⟨lt_top_iff_ne_top.2 h.ne_top, lt_top_iff_ne_top.2 fun hn => h.ne_bot ?_⟩
    rw [← neg_neg (l b), hn]; rfl
  rw [refLse, ht, lseSq, add_comm (top l)]
  rfl

end Best

/-- A fold over (value, index) pairs that keeps the larger value, and of two equal ones the smaller index, ends at a pair
    whose value is above every other one's. -/
theorem foldl_best {α : Type} (f : EReal × α → EReal × α → EReal × α) (p : EReal × α) (xs : List (EReal × α))
    (hf₁ : ∀ q, q.1 < p.1 → f q p = p) (hf₂ : ∀ q, q.1 < p.1 → f p q = p) (hf₃ : f p p = p)
    (hf₄ : ∀ q r, q.1 < p.1 → r.1 < p.1 → (f q r).1 < p.1)
    (hx : ∀ q ∈ xs, q = p ∨ q.1 < p.1) (i : EReal × α) (hi : (i.1 < p.1 ∧ p ∈ xs) ∨ i = p) : xs.foldl f i = p := by
  induction xs generalizing i with
  | nil => rcases hi with ⟨_, hm⟩ | hi
           · simp at hm
           · exact hi
  | cons a xs ih =>
    rw [List.foldl_cons]
    refine ih (fun q hq => hx q (List.mem_cons_of_mem _ hq)) _ ?_
    rcases hx a List.mem_cons_self with ha | ha
    · right
      rcases hi with ⟨hlt, _⟩ | hi
      · rw [ha, hf₁ i hlt]
      · rw [ha, hi, hf₃]
    · rcases hi with ⟨hlt, hm⟩ | hi
      · left
        refine ⟨hf₄ i a hlt ha, ?_⟩
        rcases List.mem_cons.1 hm with hpa | hm
        · exact absurd ha (hpa ▸ lt_irrefl _)
        · exact hm
      · right; rw [hi, hf₂ a ha]

end Cert.Router

end
-- ==== Proof.Stage.lean ====
/-
  One chunk of 512 tokens in the kernel's body, in named steps: the steps the four chunks' values share, and what each
  step holds at an index over the extended reals.
-/
module

public import proofs.«01_k».proof.Proof.Gen.KernelIdeal.Skeleton
public import proofs.«01_k».proof.Proof.Row
public import Idealize.ShloMosaic.Lib.Pointwise

@[expose] public section

noncomputable section

namespace Cert.Router

open Idealize.ShloMosaic Cert.KernelIdeal Cert.KernelIdeal.Gen

/-! ## The steps -/

/-- The chunk's logits, from its rows of the product. -/
abbrev Logits := FVec Ideal S512x64 .f32
def logitsC (y : Logits) (t b : FVec Ideal S1x64 .f32) : Logits :=
  divf (addf y (broadcastTo S512x64 b broadcasts_S1x64_S512x64)) (broadcastTo S512x64 t broadcasts_S1x64_S512x64)
def topC (l : Logits) : FVec Ideal S512x1 .f32 :=
  shapeCast S512x1 (multiReduction .maximumf [1] S512 l 0xFF800000#32 reduces_S512x64_S512 (.inl rfl) rfl) shapeCasts_S512_S512x1
def numC (l : Logits) : Logits := exp (subf l (broadcastTo S512x64 (topC l) broadcasts_S512x1_S512x64))
def massC (l : Logits) : FVec Ideal S512x1 .f32 :=
  shapeCast S512x1 (multiReduction .add [1] S512 (numC l) 0x00000000#32 reduces_S512x64_S512 (.inl rfl) rfl) shapeCasts_S512_S512x1
def weightC (l : Logits) : FVec Ideal S512x1 .f32 := divf (broadcast S512x1 (Scalar.ofBits .f32 0x3F800000#32)) (massC l)
def probC (l : Logits) : Logits := mulf (numC l) (broadcastTo S512x64 (weightC l) broadcasts_S512x1_S512x64)
def pickC (l : Logits) : IVec S512x1 32 :=
  shapeCast S512x1 (reduceIndex .argMax 1 S512 l reduces_S512x64_S512) shapeCasts_S512_S512x1
/-- How many of the chunk's tokens picked each expert; the chunk's sums of probabilities and of squares. -/
def countC (l : Logits) : FVec Ideal S1x64 .f32 :=
  shapeCast S1x64 (multiReduction .add [0] S64
    (sitofp .f32 (extui 32 (cmpi .eq (iota .tc S512x64 32 [1] iota_S512x64_d1_w32) (broadcastTo S512x64 (pickC l) broadcasts_S512x1_S512x64)) natLt_1_32) : Logits)
    0x00000000#32 reduces_S512x64_S64 (.inl rfl) rfl) shapeCasts_S64_S1x64
def probSumC (l : Logits) : FVec Ideal S1x64 .f32 :=
  shapeCast S1x64 (multiReduction .add [0] S64 (probC l) 0x00000000#32 reduces_S512x64_S64 (.inl rfl) rfl) shapeCasts_S64_S1x64
def lseC (l : Logits) : FVec Ideal S512x1 .f32 := addf (topC l) (log (massC l))
def lseSumC (l : Logits) : FVec Ideal S1x1 .f32 :=
  broadcast S1x1 (extractAt ![0, 0, 0]
    (shapeCast S1x1x1 (multiReduction .add [1, 2] S1 (shapeCast S1x512x1 (mulf (lseC l) (lseC l)) shapeCasts_S512x1_S1x512x1)
      0x00000000#32 reduces_S1x512x1_S1 (.inl rfl) rfl) shapeCasts_S1_S1x1x1) inpos_S1x1x1_p0_0_0)

/-! ## The steps at an index -/

/-- The pattern of minus infinity. -/
theorem ofBits_neg_inf : Ideal.ofBits .f32 0xFF800000#32 = ⊥ := by simp [Ideal.ofBits, Ideal.ieee]

/-- The value of an indicator word: 1 where the two words are equal, 0 elsewhere. -/
theorem one_if (a b : BitVec 32) :
    FloatOps.sitofp (F := Ideal) FTy.f32 (BitVec.setWidth 32 (IntOp.cmpi .eq a b)) = (if b = a then 1 else 0 : EReal) := by
  by_cases h : b = a
  · rw [if_pos h, h]
    have : BitVec.setWidth 32 (IntOp.cmpi .eq a a) = 1#32 := by simp [IntOp.cmpi]
    rw [this]
    exact EReal.coe_eq_one.2 (by norm_num)
  · rw [if_neg h]
    have : (a == b) = false := by simpa using fun e => h e.symm
    have : BitVec.setWidth 32 (IntOp.cmpi .eq a b) = 0#32 := by simp [IntOp.cmpi, this]
    rw [this]
    exact EReal.coe_eq_zero.2 (by norm_num)

/-- The index of the first largest entry along the experts, read off one row. -/
theorem reduceIndex_row (h : S512x64.Reduces [1] S512) (l : Logits) (r : Fin 512) :
    Ideal.reduceIndex .argMax 1 h l (ix1 r) = pick (fun e => l (ix2 r e)) := by
  have hd : ∀ (p : Fin 512) (e : Fin 64), h.drop (ix2 p e) = ix1 p := fun p e => by
    funext a; match a with | ⟨0, _⟩ => rfl
  have hi : ∀ i : S512x64.Idx, h.drop i = ix1 r → ∃ e : Fin 64, i = ix2 r e := fun i e => by
    have hz : i = ix2 (i 0 : Fin 512) (i 1 : Fin 64) := eq_ix2 i
    have e' : ix1 (i 0 : Fin 512) = ix1 r := (hd (i 0) (i 1)).symm.trans ((congrArg h.drop hz.symm).trans e)
    have : (i 0 : Fin 512) = r := congrFun e' 0
    exact ⟨i 1, this ▸ hz⟩
  unfold Ideal.reduceIndex pick
  refine congrArg (fun S : Finset ℕ => BitVec.ofNat 32 (S.min.getD 0)) (Finset.ext fun n => ?_)
  simp only [Finset.mem_image, Finset.mem_filter, Finset.mem_univ, true_and, if_true]
  constructor
  · rintro ⟨i, ⟨hir, hmax⟩, rfl⟩
    obtain ⟨e, rfl⟩ := hi i hir
    exact ⟨e, fun e' => hmax _ (hd r e'), rfl⟩
  · rintro ⟨e, hmax, rfl⟩
    refine ⟨ix2 r e, ⟨hd r e, fun i' hi' => ?_⟩, rfl⟩
    obtain ⟨e', rfl⟩ := hi i' hi'
    exact hmax e'

/-- A chunk's row. -/
abbrev rowC (l : Logits) (r : Fin 512) : Row := fun e => l (ix2 r e)

theorem topC_apply (l : Logits) (r : Fin 512) (z : Fin 1) : topC l (ix2 r z) = top (rowC l r) := by
  unfold topC
  pointwise
  rw [ofBits_neg_inf]; rfl

theorem numC_apply (l : Logits) (r : Fin 512) (e : Fin 64) : numC l (ix2 r e) = num (rowC l r) e := by
  unfold numC
  pointwise
  rw [topC_apply]; rfl

theorem massC_apply (l : Logits) (r : Fin 512) (z : Fin 1) : massC l (ix2 r z) = mass (rowC l r) := by
  unfold massC
  pointwise
  exact Finset.sum_congr rfl fun e _ => numC_apply l r e

theorem weightC_apply (l : Logits) (r : Fin 512) (z : Fin 1) : weightC l (ix2 r z) = weight (rowC l r) := by
  unfold weightC
  pointwise
  rw [massC_apply]; rfl

theorem probC_apply (l : Logits) (r : Fin 512) (e : Fin 64) : probC l (ix2 r e) = prob (rowC l r) e := by
  unfold probC
  pointwise
  rw [numC_apply, weightC_apply]; rfl

theorem pickC_apply (l : Logits) (r : Fin 512) (z : Fin 1) : pickC l (ix2 r z) = pick (rowC l r) := by
  unfold pickC
  pointwise
  rw [reduceIndex, Ideal.reduceIndex_def]
  exact reduceIndex_row reduces_S512x64_S512 l r

theorem lseC_apply (l : Logits) (r : Fin 512) (z : Fin 1) :
    lseC l (ix2 r z) = top (rowC l r) + Ideal.log (mass (rowC l r)) := by
  unfold lseC
  pointwise
  rw [topC_apply, massC_apply]

theorem countC_apply (l : Logits) (z : Fin 1) (e : Fin 64) :
    countC l (ix2 z e) = ∑ r : Fin 512, (if pick (rowC l r) = BitVec.ofNat 32 e.val then 1 else 0 : EReal) := by
  unfold countC
  pointwise
  exact Finset.sum_congr rfl fun r _ => by rw [pickC_apply]; exact one_if _ _

theorem probSumC_apply (l : Logits) (z : Fin 1) (e : Fin 64) :
    probSumC l (ix2 z e) = ∑ r : Fin 512, prob (rowC l r) e := by
  unfold probSumC
  pointwise
  exact Finset.sum_congr rfl fun r _ => probC_apply l r e

theorem lseSumC_apply (l : Logits) (z z' : Fin 1) : lseSumC l (ix2 z z') = ∑ r : Fin 512, lseSq (rowC l r) := by
  unfold lseSumC
  pointwise
  refine Finset.sum_congr rfl fun r _ => ?_
  rw [Fin.sum_univ_one, lseC_apply]; rfl

end Cert.Router

end
-- ==== Proof.Block.lean ====
/-
  One grid point of the kernel over the extended reals: from the blocks of tokens, router matrix, biases and temperatures,
  the three result blocks and the three totals the point adds, each in terms of its tokens' rows of logits.
-/
module

public import proofs.«01_k».proof.Proof.Stage
public import Idealize.ShloMosaic.Lib.Pipeline.ValueKit

@[expose] public section

noncomputable section

namespace Cert.Router

open Idealize.ShloMosaic Cert.KernelIdeal Cert.KernelIdeal.Gen

/-- The router logits of one token: `(∑ k, x k * w k e + b e) / clip (t e)`, from the token's entries. -/
def rowOf (x : Fin 2048 → EReal) (w : Fin 2048 → Fin 64 → EReal) (b t : Fin 64 → EReal) : Row := fun e =>
  Ideal.div ((∑ k, x k * w k e) + b e)
    (min (Ideal.ofBits .f32 0x41200000#32) (max (Ideal.ofBits .f32 0x3DCCCCCD#32) (t e)))

/-- The row of token `r` of a block. -/
def blkRow (x0 : FVec Ideal S2048x2048 .f32) (x1 : FVec Ideal S2048x64 .f32) (x2 x3 : FVec Ideal S1x64 .f32)
    (r : Fin 2048) : Row :=
  rowOf (fun k => x0 (ix2 r k)) (fun k e => x1 (ix2 k e)) (fun e => x2 (ix2 0 e)) (fun e => x3 (ix2 0 e))

section
variable (x0 : FVec Ideal S2048x2048 .f32) (x1 : FVec Ideal S2048x64 .f32) (x2 x3 : FVec Ideal S1x64 .f32)

/-- The logits of the block's four chunks. -/
def chunk0 : Logits :=
  logitsC (extractStridedSlice S512x64 ![0, 0] (k0_pay10 x0 x1) slices_S2048x64_o0_0_S512x64) (k0_pay11 x3) (k0_pay12 x2)
def chunk1 : Logits :=
  logitsC (extractStridedSlice S512x64 ![512, 0] (k0_pay10 x0 x1) slices_S2048x64_o512_0_S512x64) (k0_pay11 x3) (k0_pay12 x2)
def chunk2 : Logits :=
  logitsC (extractStridedSlice S512x64 ![1024, 0] (k0_pay10 x0 x1) slices_S2048x64_o1024_0_S512x64) (k0_pay11 x3) (k0_pay12 x2)
def chunk3 : Logits :=
  logitsC (extractStridedSlice S512x64 ![1536, 0] (k0_pay10 x0 x1) slices_S2048x64_o1536_0_S512x64) (k0_pay11 x3) (k0_pay12 x2)

/-- Token `r` of chunk `q`. -/
def tok (q : Fin 4) (r : Fin 512) : Fin 2048 := ⟨q.val * 512 + r.val, by omega⟩

/-- A sum over the block's tokens, chunk by chunk. -/
theorem sum_tok (f : Fin 2048 → EReal) :
    (∑ r, f (tok 0 r)) + (∑ r, f (tok 1 r)) + (∑ r, f (tok 2 r)) + (∑ r, f (tok 3 r)) = ∑ r, f r := by
  rw [← Fin.sum_mul_add_fin 4 512 f, Fin.sum_univ_four]
  rfl

theorem chunk0_row (r : Fin 512) : rowC (chunk0 x0 x1 x2 x3) r = blkRow x0 x1 x2 x3 (tok 0 r) := by
  funext e
  unfold rowC chunk0 logitsC k0_pay10 k0_pay11 k0_pay12 blkRow rowOf tok
  pointwise

theorem chunk1_row (r : Fin 512) : rowC (chunk1 x0 x1 x2 x3) r = blkRow x0 x1 x2 x3 (tok 1 r) := by
  funext e
  unfold rowC chunk1 logitsC k0_pay10 k0_pay11 k0_pay12 blkRow rowOf tok
  pointwise

theorem chunk2_row (r : Fin 512) : rowC (chunk2 x0 x1 x2 x3) r = blkRow x0 x1 x2 x3 (tok 2 r) := by
  funext e
  unfold rowC chunk2 logitsC k0_pay10 k0_pay11 k0_pay12 blkRow rowOf tok
  pointwise

theorem chunk3_row (r : Fin 512) : rowC (chunk3 x0 x1 x2 x3) r = blkRow x0 x1 x2 x3 (tok 3 r) := by
  funext e
  unfold rowC chunk3 logitsC k0_pay10 k0_pay11 k0_pay12 blkRow rowOf tok
  pointwise

/-! ## What the body stores, in the steps' words -/

theorem weight0 (r : Fin 512) (z : Fin 1) : k0_pay20 (F := Ideal) x0 x1 x3 x2 (ix2 r z) = weight (blkRow x0 x1 x2 x3 (tok 0 r)) := by
  rw [← chunk0_row]; exact weightC_apply (chunk0 x0 x1 x2 x3) r z
theorem pick0 (r : Fin 512) (z : Fin 1) : k0_pay22 (F := Ideal) x0 x1 x3 x2 (ix2 r z) = pick (blkRow x0 x1 x2 x3 (tok 0 r)) := by
  rw [← chunk0_row]; exact pickC_apply (chunk0 x0 x1 x2 x3) r z
theorem prob0 (r : Fin 512) (e : Fin 64) : k0_pay21 (F := Ideal) x0 x1 x3 x2 (ix2 r e) = prob (blkRow x0 x1 x2 x3 (tok 0 r)) e := by
  rw [← chunk0_row]; exact probC_apply (chunk0 x0 x1 x2 x3) r e

theorem weight1 (r : Fin 512) (z : Fin 1) : k0_pay30 (F := Ideal) (k0_pay10 (F := Ideal) x0 x1) (k0_pay11 (F := Ideal) x3) (k0_pay12 (F := Ideal) x2) (ix2 r z) = weight (blkRow x0 x1 x2 x3 (tok 1 r)) := by
  rw [← chunk1_row]; exact weightC_apply (chunk1 x0 x1 x2 x3) r z
theorem pick1 (r : Fin 512) (z : Fin 1) : k0_pay32 (F := Ideal) (k0_pay10 (F := Ideal) x0 x1) (k0_pay11 (F := Ideal) x3) (k0_pay12 (F := Ideal) x2) (ix2 r z) = pick (blkRow x0 x1 x2 x3 (tok 1 r)) := by
  rw [← chunk1_row]; exact pickC_apply (chunk1 x0 x1 x2 x3) r z
theorem prob1 (r : Fin 512) (e : Fin 64) : k0_pay31 (F := Ideal) (k0_pay10 (F := Ideal) x0 x1) (k0_pay11 (F := Ideal) x3) (k0_pay12 (F := Ideal) x2) (ix2 r e) = prob (blkRow x0 x1 x2 x3 (tok 1 r)) e := by
  rw [← chunk1_row]; exact probC_apply (chunk1 x0 x1 x2 x3) r e

theorem weight2 (r : Fin 512) (z : Fin 1) : k0_pay41 (F := Ideal) (k0_pay10 (F := Ideal) x0 x1) (k0_pay11 (F := Ideal) x3) (k0_pay12 (F := Ideal) x2) (ix2 r z) = weight (blkRow x0 x1 x2 x3 (tok 2 r)) := by
  rw [← chunk2_row]; exact weightC_apply (chunk2 x0 x1 x2 x3) r z
theorem pick2 (r : Fin 512) (z : Fin 1) : k0_pay43 (F := Ideal) (k0_pay10 (F := Ideal) x0 x1) (k0_pay11 (F := Ideal) x3) (k0_pay12 (F := Ideal) x2) (ix2 r z) = pick (blkRow x0 x1 x2 x3 (tok 2 r)) := by
  rw [← chunk2_row]; exact pickC_apply (chunk2 x0 x1 x2 x3) r z
theorem prob2 (r : Fin 512) (e : Fin 64) : k0_pay42 (F := Ideal) (k0_pay10 (F := Ideal) x0 x1) (k0_pay11 (F := Ideal) x3) (k0_pay12 (F := Ideal) x2) (ix2 r e) = prob (blkRow x0 x1 x2 x3 (tok 2 r)) e := by
  rw [← chunk2_row]; exact probC_apply (chunk2 x0 x1 x2 x3) r e

theorem weight3 (r : Fin 512) (z : Fin 1) : k0_pay51 (F := Ideal) (k0_pay10 (F := Ideal) x0 x1) (k0_pay11 (F := Ideal) x3) (k0_pay12 (F := Ideal) x2) (ix2 r z) = weight (blkRow x0 x1 x2 x3 (tok 3 r)) := by
  rw [← chunk3_row]; exact weightC_apply (chunk3 x0 x1 x2 x3) r z
theorem pick3 (r : Fin 512) (z : Fin 1) : k0_pay53 (F := Ideal) (k0_pay10 (F := Ideal) x0 x1) (k0_pay11 (F := Ideal) x3) (k0_pay12 (F := Ideal) x2) (ix2 r z) = pick (blkRow x0 x1 x2 x3 (tok 3 r)) := by
  rw [← chunk3_row]; exact pickC_apply (chunk3 x0 x1 x2 x3) r z
theorem prob3 (r : Fin 512) (e : Fin 64) : k0_pay52 (F := Ideal) (k0_pay10 (F := Ideal) x0 x1) (k0_pay11 (F := Ideal) x3) (k0_pay12 (F := Ideal) x2) (ix2 r e) = prob (blkRow x0 x1 x2 x3 (tok 3 r)) e := by
  rw [← chunk3_row]; exact probC_apply (chunk3 x0 x1 x2 x3) r e

/-! ## The block's totals -/

/-- The words an expert's index is compared with. -/
abbrev lanes : IVec S512x64 32 := iota .tc S512x64 32 [1] iota_S512x64_d1_w32

/-- How many of the block's tokens picked each expert. -/
def countT : FVec Ideal S1x64 .f32 :=
  k0_pay54 (F := Ideal) (k0_pay10 (F := Ideal) x0 x1) (k0_pay11 (F := Ideal) x3) (k0_pay12 (F := Ideal) x2) lanes
    (k0_pay34 (F := Ideal) lanes (k0_pay23 (F := Ideal) (k0_pay13 (F := Ideal)) lanes (k0_pay22 (F := Ideal) x0 x1 x3 x2)) (k0_pay33 (F := Ideal) (k0_pay10 (F := Ideal) x0 x1) (k0_pay11 (F := Ideal) x3) (k0_pay12 (F := Ideal) x2)))
    (k0_pay44 (F := Ideal) (k0_pay10 (F := Ideal) x0 x1) (k0_pay11 (F := Ideal) x3) (k0_pay12 (F := Ideal) x2) lanes)

theorem countT_apply (z : Fin 1) (e : Fin 64) : countT x0 x1 x2 x3 (ix2 z e)
    = ∑ r, (if pick (blkRow x0 x1 x2 x3 r) = BitVec.ofNat 32 e.val then 1 else 0 : EReal) := by
  have h : countT x0 x1 x2 x3 = addf (addf (addf (addf (k0_pay13 (F := Ideal)) (countC (chunk0 x0 x1 x2 x3))) (countC (chunk1 x0 x1 x2 x3)))
      (countC (chunk2 x0 x1 x2 x3))) (countC (chunk3 x0 x1 x2 x3)) := rfl
  rw [h, ← sum_tok]
  unfold k0_pay13
  pointwise
  simp only [countC_apply, chunk0_row, chunk1_row, chunk2_row, chunk3_row]

/-- The block's sum of probabilities, per expert: the first three chunks and then the last. -/
def probT3 : FVec Ideal S1x64 .f32 :=
  k0_pay45 (F := Ideal) (k0_pay35 (F := Ideal) (k0_pay24 (F := Ideal) (k0_pay14 (F := Ideal)) (k0_pay21 (F := Ideal) x0 x1 x3 x2)) (k0_pay31 (F := Ideal) (k0_pay10 (F := Ideal) x0 x1) (k0_pay11 (F := Ideal) x3) (k0_pay12 (F := Ideal) x2)))
    (k0_pay42 (F := Ideal) (k0_pay10 (F := Ideal) x0 x1) (k0_pay11 (F := Ideal) x3) (k0_pay12 (F := Ideal) x2))

theorem probT_apply (z : Fin 1) (e : Fin 64) :
    k0_pay1 (F := Ideal) (probT3 x0 x1 x2 x3) (k0_pay55 (F := Ideal) (k0_pay10 (F := Ideal) x0 x1) (k0_pay11 (F := Ideal) x3) (k0_pay12 (F := Ideal) x2)) (ix2 z e)
      = ∑ r, prob (blkRow x0 x1 x2 x3 r) e := by
  have h : k0_pay1 (F := Ideal) (probT3 x0 x1 x2 x3) (k0_pay55 (F := Ideal) (k0_pay10 (F := Ideal) x0 x1) (k0_pay11 (F := Ideal) x3) (k0_pay12 (F := Ideal) x2))
      = addf (addf (addf (addf (k0_pay14 (F := Ideal)) (probSumC (chunk0 x0 x1 x2 x3))) (probSumC (chunk1 x0 x1 x2 x3)))
      (probSumC (chunk2 x0 x1 x2 x3))) (probSumC (chunk3 x0 x1 x2 x3)) := rfl
  rw [h, ← sum_tok]
  unfold k0_pay14
  pointwise
  simp only [probSumC_apply, chunk0_row, chunk1_row, chunk2_row, chunk3_row]

/-- The block's sum of squared log-sum-exps: the first three chunks. -/
def lseT3 : FVec Ideal S1x1 .f32 :=
  k0_pay46 (F := Ideal) (k0_pay36 (F := Ideal) (k0_pay25 (F := Ideal) (k0_pay15 (F := Ideal)) (k0_pay17 (F := Ideal) x0 x1 x3 x2) (k0_pay19 (F := Ideal) x0 x1 x3 x2))
      (k0_pay27 (F := Ideal) (k0_pay10 (F := Ideal) x0 x1) (k0_pay11 (F := Ideal) x3) (k0_pay12 (F := Ideal) x2)) (k0_pay29 (F := Ideal) (k0_pay10 (F := Ideal) x0 x1) (k0_pay11 (F := Ideal) x3) (k0_pay12 (F := Ideal) x2)))
    (k0_pay38 (F := Ideal) (k0_pay10 (F := Ideal) x0 x1) (k0_pay11 (F := Ideal) x3) (k0_pay12 (F := Ideal) x2)) (k0_pay40 (F := Ideal) (k0_pay10 (F := Ideal) x0 x1) (k0_pay11 (F := Ideal) x3) (k0_pay12 (F := Ideal) x2))

theorem lseT_apply (z z' : Fin 1) :
    k0_pay2 (F := Ideal) (lseT3 x0 x1 x2 x3) (k0_pay48 (F := Ideal) (k0_pay10 (F := Ideal) x0 x1) (k0_pay11 (F := Ideal) x3) (k0_pay12 (F := Ideal) x2))
      (k0_pay50 (F := Ideal) (k0_pay10 (F := Ideal) x0 x1) (k0_pay11 (F := Ideal) x3) (k0_pay12 (F := Ideal) x2)) (ix2 z z') = ∑ r, lseSq (blkRow x0 x1 x2 x3 r) := by
  have h : k0_pay2 (F := Ideal) (lseT3 x0 x1 x2 x3) (k0_pay48 (F := Ideal) (k0_pay10 (F := Ideal) x0 x1) (k0_pay11 (F := Ideal) x3) (k0_pay12 (F := Ideal) x2))
        (k0_pay50 (F := Ideal) (k0_pay10 (F := Ideal) x0 x1) (k0_pay11 (F := Ideal) x3) (k0_pay12 (F := Ideal) x2))
      = addf (addf (addf (addf (k0_pay15 (F := Ideal)) (lseSumC (chunk0 x0 x1 x2 x3))) (lseSumC (chunk1 x0 x1 x2 x3)))
      (lseSumC (chunk2 x0 x1 x2 x3))) (lseSumC (chunk3 x0 x1 x2 x3)) := rfl
  rw [h, ← sum_tok]
  unfold k0_pay15
  pointwise
  simp only [lseSumC_apply, chunk0_row, chunk1_row, chunk2_row, chunk3_row]

end
end Cert.Router

end
-- ==== Proof.Points.lean ====
/-
  The kernel's eight grid points over the extended reals: what the three result blocks and the three carried totals hold
  after each point, and the loss that the last point writes, in terms of the tokens' rows of logits.
-/
module

public import proofs.«01_k».proof.Proof.Block
public import proofs.«01_k».proof.Proof.Gen.KernelIdeal.Frame
public import Idealize.ShloMosaic.Lib.Pipeline.ValueKit
public import Idealize.ShloMosaic.Lib.Pipeline.ReadBack

@[expose] public section

noncomputable section

namespace Cert.Router

open Idealize.ShloMosaic Idealize.ShloMosaic.TcCoe Idealize.SL.Sem Cert.KernelIdeal Cert.KernelIdeal.Gen

/-! ## A block stored as four chunks -/

/-- A column stored as four chunks of 512 rows, at a row. -/
theorem canon_col {e : EltTy} [∀ e, Nonempty (Elt Ideal e)] (G : Fin 2048 → Elt Ideal e) (p0 p1 p2 p3 : Vec Ideal S512x1 e)
    (h0 : ∀ r z, p0 (ix2 r z) = G (tok 0 r)) (h1 : ∀ r z, p1 (ix2 r z) = G (tok 1 r))
    (h2 : ∀ r z, p2 (ix2 r z) = G (tok 2 r)) (h3 : ∀ r z, p3 (ix2 r z) = G (tok 3 r)) :
    View.canon (Val := Elt Ideal) (s := S2048x1) (e := e)
      [⟨Rect.unit ![1536, 0] ![512, 1] inb_S2048x1_S512x1_1536_0, p3⟩, ⟨Rect.unit ![1024, 0] ![512, 1] inb_S2048x1_S512x1_1024_0, p2⟩,
        ⟨Rect.unit ![512, 0] ![512, 1] inb_S2048x1_S512x1_512_0, p1⟩, ⟨Rect.unit ![0, 0] ![512, 1] inb_S2048x1_S512x1_0_0, p0⟩]
      = fun y => G (y 0) := by
  funext y
  refine View.canon_apply_of_pieces (fun y : S2048x1.Idx => G (y 0)) _ (fun p hp x => ?_) y ?_
  · simp only [List.mem_cons, List.mem_nil_iff, or_false] at hp
    rcases hp with rfl | rfl | rfl | rfl
    · refine (congrArg p3 (eq_ix2 x)).trans ((h3 _ _).trans (congrArg G (Fin.ext ?_))); show 3 * 512 + (x 0).val = 1536 + 1 * (x 0).val; omega
    · refine (congrArg p2 (eq_ix2 x)).trans ((h2 _ _).trans (congrArg G (Fin.ext ?_))); show 2 * 512 + (x 0).val = 1024 + 1 * (x 0).val; omega
    · refine (congrArg p1 (eq_ix2 x)).trans ((h1 _ _).trans (congrArg G (Fin.ext ?_))); show 1 * 512 + (x 0).val = 512 + 1 * (x 0).val; omega
    · refine (congrArg p0 (eq_ix2 x)).trans ((h0 _ _).trans (congrArg G (Fin.ext ?_))); show 0 * 512 + (x 0).val = 0 + 1 * (x 0).val; omega
  · have hy0 : (y 0 : Nat) < 2048 := (y 0).isLt
    have hy1 : (y 1 : Nat) < 1 := (y 1).isLt
    by_cases a : (y 0 : Nat) < 512
    · refine ⟨_, List.mem_cons_of_mem _ (List.mem_cons_of_mem _ (List.mem_cons_of_mem _ List.mem_cons_self)), ?_⟩
      refine (Rect.mem_set_unit (inb := inb_S2048x1_S512x1_0_0)).2 fun ax => ?_
      match ax with
      | ⟨0, _⟩ => show 0 ≤ (y 0 : Nat) ∧ (y 0 : Nat) < 0 + 512; omega
      | ⟨1, _⟩ => show 0 ≤ (y 1 : Nat) ∧ (y 1 : Nat) < 0 + 1; omega
    by_cases a' : (y 0 : Nat) < 1024
    · refine ⟨_, List.mem_cons_of_mem _ (List.mem_cons_of_mem _ List.mem_cons_self), ?_⟩
      refine (Rect.mem_set_unit (inb := inb_S2048x1_S512x1_512_0)).2 fun ax => ?_
      match ax with
      | ⟨0, _⟩ => show 512 ≤ (y 0 : Nat) ∧ (y 0 : Nat) < 512 + 512; omega
      | ⟨1, _⟩ => show 0 ≤ (y 1 : Nat) ∧ (y 1 : Nat) < 0 + 1; omega
    by_cases a'' : (y 0 : Nat) < 1536
    · refine ⟨_, List.mem_cons_of_mem _ List.mem_cons_self, ?_⟩
      refine (Rect.mem_set_unit (inb := inb_S2048x1_S512x1_1024_0)).2 fun ax => ?_
      match ax with
      | ⟨0, _⟩ => show 1024 ≤ (y 0 : Nat) ∧ (y 0 : Nat) < 1024 + 512; omega
      | ⟨1, _⟩ => show 0 ≤ (y 1 : Nat) ∧ (y 1 : Nat) < 0 + 1; omega
    · refine ⟨_, List.mem_cons_self, ?_⟩
      refine (Rect.mem_set_unit (inb := inb_S2048x1_S512x1_1536_0)).2 fun ax => ?_
      match ax with
      | ⟨0, _⟩ => show 1536 ≤ (y 0 : Nat) ∧ (y 0 : Nat) < 1536 + 512; omega
      | ⟨1, _⟩ => show 0 ≤ (y 1 : Nat) ∧ (y 1 : Nat) < 0 + 1; omega

/-- A block of 64 columns stored as four chunks of 512 rows, at an index. -/
theorem canon_mat {e : EltTy} [∀ e, Nonempty (Elt Ideal e)] (G : Fin 2048 → Fin 64 → Elt Ideal e) (p0 p1 p2 p3 : Vec Ideal S512x64 e)
    (h0 : ∀ r z, p0 (ix2 r z) = G (tok 0 r) z) (h1 : ∀ r z, p1 (ix2 r z) = G (tok 1 r) z)
    (h2 : ∀ r z, p2 (ix2 r z) = G (tok 2 r) z) (h3 : ∀ r z, p3 (ix2 r z) = G (tok 3 r) z) :
    View.canon (Val := Elt Ideal) (s := S2048x64) (e := e)
      [⟨Rect.unit ![1536, 0] ![512, 64] inb_S2048x64_S512x64_1536_0, p3⟩, ⟨Rect.unit ![1024, 0] ![512, 64] inb_S2048x64_S512x64_1024_0, p2⟩,
        ⟨Rect.unit ![512, 0] ![512, 64] inb_S2048x64_S512x64_512_0, p1⟩, ⟨Rect.unit ![0, 0] ![512, 64] inb_S2048x64_S512x64_0_0, p0⟩]
      = fun y => G (y 0) (y 1) := by
  funext y
  refine View.canon_apply_of_pieces (fun y : S2048x64.Idx => G (y 0) (y 1)) _ (fun p hp x => ?_) y ?_
  · simp only [List.mem_cons, List.mem_nil_iff, or_false] at hp
    rcases hp with rfl | rfl | rfl | rfl
    · refine (congrArg p3 (eq_ix2 x)).trans ((h3 _ _).trans (congrArg₂ G (Fin.ext ?_) (Fin.ext ?_))); (show 3 * 512 + (x 0).val = 1536 + 1 * (x 0).val; omega); show (x 1).val = 0 + 1 * (x 1).val; omega
    · refine (congrArg p2 (eq_ix2 x)).trans ((h2 _ _).trans (congrArg₂ G (Fin.ext ?_) (Fin.ext ?_))); (show 2 * 512 + (x 0).val = 1024 + 1 * (x 0).val; omega); show (x 1).val = 0 + 1 * (x 1).val; omega
    · refine (congrArg p1 (eq_ix2 x)).trans ((h1 _ _).trans (congrArg₂ G (Fin.ext ?_) (Fin.ext ?_))); (show 1 * 512 + (x 0).val = 512 + 1 * (x 0).val; omega); show (x 1).val = 0 + 1 * (x 1).val; omega
    · refine (congrArg p0 (eq_ix2 x)).trans ((h0 _ _).trans (congrArg₂ G (Fin.ext ?_) (Fin.ext ?_))); (show 0 * 512 + (x 0).val = 0 + 1 * (x 0).val; omega); show (x 1).val = 0 + 1 * (x 1).val; omega
  · have hy0 : (y 0 : Nat) < 2048 := (y 0).isLt
    have hy1 : (y 1 : Nat) < 64 := (y 1).isLt
    by_cases a : (y 0 : Nat) < 512
    · refine ⟨_, List.mem_cons_of_mem _ (List.mem_cons_of_mem _ (List.mem_cons_of_mem _ List.mem_cons_self)), ?_⟩
      refine (Rect.mem_set_unit (inb := inb_S2048x64_S512x64_0_0)).2 fun ax => ?_
      match ax with
      | ⟨0, _⟩ => show 0 ≤ (y 0 : Nat) ∧ (y 0 : Nat) < 0 + 512; omega
      | ⟨1, _⟩ => show 0 ≤ (y 1 : Nat) ∧ (y 1 : Nat) < 0 + 64; omega
    by_cases a' : (y 0 : Nat) < 1024
    · refine ⟨_, List.mem_cons_of_mem _ (List.mem_cons_of_mem _ List.mem_cons_self), ?_⟩
      refine (Rect.mem_set_unit (inb := inb_S2048x64_S512x64_512_0)).2 fun ax => ?_
      match ax with
      | ⟨0, _⟩ => show 512 ≤ (y 0 : Nat) ∧ (y 0 : Nat) < 512 + 512; omega
      | ⟨1, _⟩ => show 0 ≤ (y 1 : Nat) ∧ (y 1 : Nat) < 0 + 64; omega
    by_cases a'' : (y 0 : Nat) < 1536
    · refine ⟨_, List.mem_cons_of_mem _ List.mem_cons_self, ?_⟩
      refine (Rect.mem_set_unit (inb := inb_S2048x64_S512x64_1024_0)).2 fun ax => ?_
      match ax with
      | ⟨0, _⟩ => show 1024 ≤ (y 0 : Nat) ∧ (y 0 : Nat) < 1024 + 512; omega
      | ⟨1, _⟩ => show 0 ≤ (y 1 : Nat) ∧ (y 1 : Nat) < 0 + 64; omega
    · refine ⟨_, List.mem_cons_self, ?_⟩
      refine (Rect.mem_set_unit (inb := inb_S2048x64_S512x64_1536_0)).2 fun ax => ?_
      match ax with
      | ⟨0, _⟩ => show 1536 ≤ (y 0 : Nat) ∧ (y 0 : Nat) < 1536 + 512; omega
      | ⟨1, _⟩ => show 0 ≤ (y 1 : Nat) ∧ (y 1 : Nat) < 0 + 64; omega

/-! ## One point -/

variable (m : (ℓ : Loc nD τ sig) → Buf (Elt Ideal) ℓ) (c : Dev nD)

/-- The row of token `r` of point `t`'s block. -/
def ptRow (t : Fin cfg0.N) (r : Fin 2048) : Row := blkRow (iblk m c 0 t) (iblk m c 1 t) (iblk m c 2 t) (iblk m c 3 t) r

/-- The three cases of a grid point: the first, one between, the last. -/
theorem cases_pt (t : Fin cfg0.N) :
    (t.val % 8 = 0 ∧ ¬1 ≤ t.val ∧ ¬t.val % 8 = 7) ∨ (¬t.val % 8 = 0 ∧ 1 ≤ t.val ∧ ¬t.val % 8 = 7)
      ∨ (¬t.val % 8 = 0 ∧ 1 ≤ t.val ∧ t.val % 8 = 7) := by
  have h : cfg0.N = 8 := N_0
  have := t.isLt
  omega

/-- The block of weights that a point leaves. -/
theorem weights_pt (t : Fin cfg0.N) : ((outsAt0 m c t.val t.isLt).1 : Vec Ideal S2048x1 .f32) = fun y => weight (ptRow m c t (y 0)) := by
  rcases cases_pt t with ⟨h0, h1, h2⟩ | ⟨h0, h1, h2⟩ | ⟨h0, h1, h2⟩
  · rw [outsAt0_A m c t h0 h1 h2]; frame_out
    refine canon_col (e := .f32) (fun r => weight (ptRow m c t r)) _ _ _ _ ?_ ?_ ?_ ?_
    · exact weight0 (iblk m c 0 t) (iblk m c 1 t) (iblk m c 2 t) (iblk m c 3 t)
    · exact weight1 (iblk m c 0 t) (iblk m c 1 t) (iblk m c 2 t) (iblk m c 3 t)
    · exact weight2 (iblk m c 0 t) (iblk m c 1 t) (iblk m c 2 t) (iblk m c 3 t)
    · exact weight3 (iblk m c 0 t) (iblk m c 1 t) (iblk m c 2 t) (iblk m c 3 t)
  · rw [outsAt0_B m c t h0 h1 h2]; frame_out
    refine canon_col (e := .f32) (fun r => weight (ptRow m c t r)) _ _ _ _ ?_ ?_ ?_ ?_
    · exact weight0 (iblk m c 0 t) (iblk m c 1 t) (iblk m c 2 t) (iblk m c 3 t)
    · exact weight1 (iblk m c 0 t) (iblk m c 1 t) (iblk m c 2 t) (iblk m c 3 t)
    · exact weight2 (iblk m c 0 t) (iblk m c 1 t) (iblk m c 2 t) (iblk m c 3 t)
    · exact weight3 (iblk m c 0 t) (iblk m c 1 t) (iblk m c 2 t) (iblk m c 3 t)
  · rw [outsAt0_C m c t h0 h1 h2]; frame_out
    refine canon_col (e := .f32) (fun r => weight (ptRow m c t r)) _ _ _ _ ?_ ?_ ?_ ?_
    · exact weight0 (iblk m c 0 t) (iblk m c 1 t) (iblk m c 2 t) (iblk m c 3 t)
    · exact weight1 (iblk m c 0 t) (iblk m c 1 t) (iblk m c 2 t) (iblk m c 3 t)
    · exact weight2 (iblk m c 0 t) (iblk m c 1 t) (iblk m c 2 t) (iblk m c 3 t)
    · exact weight3 (iblk m c 0 t) (iblk m c 1 t) (iblk m c 2 t) (iblk m c 3 t)

/-- The block of chosen experts that a point leaves. -/
theorem picks_pt (t : Fin cfg0.N) : ((outsAt0 m c t.val t.isLt).2.1 : Vec Ideal S2048x1 .i32) = fun y => pick (ptRow m c t (y 0)) := by
  rcases cases_pt t with ⟨h0, h1, h2⟩ | ⟨h0, h1, h2⟩ | ⟨h0, h1, h2⟩
  · rw [outsAt0_A m c t h0 h1 h2]; frame_out
    refine canon_col (e := .i32) (fun r => pick (ptRow m c t r)) _ _ _ _ ?_ ?_ ?_ ?_
    · exact pick0 (iblk m c 0 t) (iblk m c 1 t) (iblk m c 2 t) (iblk m c 3 t)
    · exact pick1 (iblk m c 0 t) (iblk m c 1 t) (iblk m c 2 t) (iblk m c 3 t)
    · exact pick2 (iblk m c 0 t) (iblk m c 1 t) (iblk m c 2 t) (iblk m c 3 t)
    · exact pick3 (iblk m c 0 t) (iblk m c 1 t) (iblk m c 2 t) (iblk m c 3 t)
  · rw [outsAt0_B m c t h0 h1 h2]; frame_out
    refine canon_col (e := .i32) (fun r => pick (ptRow m c t r)) _ _ _ _ ?_ ?_ ?_ ?_
    · exact pick0 (iblk m c 0 t) (iblk m c 1 t) (iblk m c 2 t) (iblk m c 3 t)
    · exact pick1 (iblk m c 0 t) (iblk m c 1 t) (iblk m c 2 t) (iblk m c 3 t)
    · exact pick2 (iblk m c 0 t) (iblk m c 1 t) (iblk m c 2 t) (iblk m c 3 t)
    · exact pick3 (iblk m c 0 t) (iblk m c 1 t) (iblk m c 2 t) (iblk m c 3 t)
  · rw [outsAt0_C m c t h0 h1 h2]; frame_out
    refine canon_col (e := .i32) (fun r => pick (ptRow m c t r)) _ _ _ _ ?_ ?_ ?_ ?_
    · exact pick0 (iblk m c 0 t) (iblk m c 1 t) (iblk m c 2 t) (iblk m c 3 t)
    · exact pick1 (iblk m c 0 t) (iblk m c 1 t) (iblk m c 2 t) (iblk m c 3 t)
    · exact pick2 (iblk m c 0 t) (iblk m c 1 t) (iblk m c 2 t) (iblk m c 3 t)
    · exact pick3 (iblk m c 0 t) (iblk m c 1 t) (iblk m c 2 t) (iblk m c 3 t)

/-- The block of probabilities that a point leaves. -/
theorem probs_pt (t : Fin cfg0.N) : ((outsAt0 m c t.val t.isLt).2.2.1 : Vec Ideal S2048x64 .f32) = fun y => prob (ptRow m c t (y 0)) (y 1) := by
  rcases cases_pt t with ⟨h0, h1, h2⟩ | ⟨h0, h1, h2⟩ | ⟨h0, h1, h2⟩
  · rw [outsAt0_A m c t h0 h1 h2]; frame_out
    refine canon_mat (e := .f32) (fun r e => prob (ptRow m c t r) e) _ _ _ _ ?_ ?_ ?_ ?_
    · exact prob0 (iblk m c 0 t) (iblk m c 1 t) (iblk m c 2 t) (iblk m c 3 t)
    · exact prob1 (iblk m c 0 t) (iblk m c 1 t) (iblk m c 2 t) (iblk m c 3 t)
    · exact prob2 (iblk m c 0 t) (iblk m c 1 t) (iblk m c 2 t) (iblk m c 3 t)
    · exact prob3 (iblk m c 0 t) (iblk m c 1 t) (iblk m c 2 t) (iblk m c 3 t)
  · rw [outsAt0_B m c t h0 h1 h2]; frame_out
    refine canon_mat (e := .f32) (fun r e => prob (ptRow m c t r) e) _ _ _ _ ?_ ?_ ?_ ?_
    · exact prob0 (iblk m c 0 t) (iblk m c 1 t) (iblk m c 2 t) (iblk m c 3 t)
    · exact prob1 (iblk m c 0 t) (iblk m c 1 t) (iblk m c 2 t) (iblk m c 3 t)
    · exact prob2 (iblk m c 0 t) (iblk m c 1 t) (iblk m c 2 t) (iblk m c 3 t)
    · exact prob3 (iblk m c 0 t) (iblk m c 1 t) (iblk m c 2 t) (iblk m c 3 t)
  · rw [outsAt0_C m c t h0 h1 h2]; frame_out
    refine canon_mat (e := .f32) (fun r e => prob (ptRow m c t r) e) _ _ _ _ ?_ ?_ ?_ ?_
    · exact prob0 (iblk m c 0 t) (iblk m c 1 t) (iblk m c 2 t) (iblk m c 3 t)
    · exact prob1 (iblk m c 0 t) (iblk m c 1 t) (iblk m c 2 t) (iblk m c 3 t)
    · exact prob2 (iblk m c 0 t) (iblk m c 1 t) (iblk m c 2 t) (iblk m c 3 t)
    · exact prob3 (iblk m c 0 t) (iblk m c 1 t) (iblk m c 2 t) (iblk m c 3 t)

/-! ## The totals carried from point to point

The first point leaves its own total; each later point adds its own to what it found. -/

theorem pay3_eq (v : FVec Ideal S1x64 .f32) : k0_pay3 v = v := by unfold k0_pay3; exact shapeCast_self _ _
theorem pay4_eq (v w : FVec Ideal S1x64 .f32) : k0_pay4 v w = k0_pay1 v w := by unfold k0_pay4; exact shapeCast_self _ _
theorem pay5_eq (v : FVec Ideal S1x1 .f32) (a b : FVec Ideal S512x1 .f32) : k0_pay5 v a b = k0_pay2 v a b := by
  unfold k0_pay5; exact shapeCast_self _ _
theorem pay6_eq (v acc : FVec Ideal S1x64 .f32) : k0_pay6 v acc = addf acc v := by unfold k0_pay6; exact shapeCast_self _ _
theorem pay7_eq (v w acc : FVec Ideal S1x64 .f32) : k0_pay7 v w acc = addf acc (k0_pay1 v w) := by
  unfold k0_pay7; exact shapeCast_self _ _
theorem pay8_eq (v : FVec Ideal S1x1 .f32) (a b : FVec Ideal S512x1 .f32) (acc : FVec Ideal S1x1 .f32) :
    k0_pay8 v a b acc = addf acc (k0_pay2 v a b) := by
  unfold k0_pay8; exact shapeCast_self _ _

theorem count_first (t : Fin cfg0.N) (h : t.val % 8 = 0) (j : S1x64.Idx) :
    (outsAt0 m c t.val t.isLt).2.2.2.2.1 j = 0 + ∑ r, (if pick (ptRow m c t r) = BitVec.ofNat 32 (j 1 : Fin 64).val then 1 else 0 : EReal) := by
  have hN : cfg0.N = 8 := N_0
  have := t.isLt
  rw [outsAt0_A m c t h (by omega) (by omega)]
  frame_out
  rw [zero_add, eq_ix2 j, pay3_eq]
  exact countT_apply (iblk m c 0 t) (iblk m c 1 t) (iblk m c 2 t) (iblk m c 3 t) _ _

theorem count_later (t : Fin cfg0.N) (h : ¬t.val % 8 = 0) (j : S1x64.Idx) :
    (outsAt0 m c t.val t.isLt).2.2.2.2.1 j
      = (outsAt0 m c (t.val - 1) (Nat.lt_of_le_of_lt (Nat.sub_le _ _) t.isLt)).2.2.2.2.1 j + ∑ r, (if pick (ptRow m c t r) = BitVec.ofNat 32 (j 1 : Fin 64).val then 1 else 0 : EReal) := by
  have hN : cfg0.N = 8 := N_0
  have := t.isLt
  by_cases h2 : t.val % 8 = 7
  · rw [outsAt0_C m c t h (by omega) h2]
    frame_out
    rw [pay6_eq, read_unread_whole, eq_ix2 j]
    exact congrArg (_ + ·) (countT_apply (iblk m c 0 t) (iblk m c 1 t) (iblk m c 2 t) (iblk m c 3 t) _ _)
  · rw [outsAt0_B m c t h (by omega) h2]
    frame_out
    rw [pay6_eq, read_unread_whole, eq_ix2 j]
    exact congrArg (_ + ·) (countT_apply (iblk m c 0 t) (iblk m c 1 t) (iblk m c 2 t) (iblk m c 3 t) _ _)

theorem probSum_first (t : Fin cfg0.N) (h : t.val % 8 = 0) (j : S1x64.Idx) :
    (outsAt0 m c t.val t.isLt).2.2.2.2.2.1 j = 0 + ∑ r, prob (ptRow m c t r) (j 1) := by
  have hN : cfg0.N = 8 := N_0
  have := t.isLt
  rw [outsAt0_A m c t h (by omega) (by omega)]
  frame_out
  rw [zero_add, eq_ix2 j, pay4_eq]
  exact probT_apply (iblk m c 0 t) (iblk m c 1 t) (iblk m c 2 t) (iblk m c 3 t) _ _

theorem probSum_later (t : Fin cfg0.N) (h : ¬t.val % 8 = 0) (j : S1x64.Idx) :
    (outsAt0 m c t.val t.isLt).2.2.2.2.2.1 j
      = (outsAt0 m c (t.val - 1) (Nat.lt_of_le_of_lt (Nat.sub_le _ _) t.isLt)).2.2.2.2.2.1 j + ∑ r, prob (ptRow m c t r) (j 1) := by
  have hN : cfg0.N = 8 := N_0
  have := t.isLt
  by_cases h2 : t.val % 8 = 7
  · rw [outsAt0_C m c t h (by omega) h2]
    frame_out
    rw [pay7_eq, read_unread_whole, eq_ix2 j]
    exact congrArg (_ + ·) (probT_apply (iblk m c 0 t) (iblk m c 1 t) (iblk m c 2 t) (iblk m c 3 t) _ _)
  · rw [outsAt0_B m c t h (by omega) h2]
    frame_out
    rw [pay7_eq, read_unread_whole, eq_ix2 j]
    exact congrArg (_ + ·) (probT_apply (iblk m c 0 t) (iblk m c 1 t) (iblk m c 2 t) (iblk m c 3 t) _ _)

theorem lseSum_first (t : Fin cfg0.N) (h : t.val % 8 = 0) (j : S1x1.Idx) :
    (outsAt0 m c t.val t.isLt).2.2.2.2.2.2 j = 0 + ∑ r, lseSq (ptRow m c t r) := by
  have hN : cfg0.N = 8 := N_0
  have := t.isLt
  rw [outsAt0_A m c t h (by omega) (by omega)]
  frame_out
  rw [zero_add, eq_ix2 j, pay5_eq]
  exact lseT_apply (iblk m c 0 t) (iblk m c 1 t) (iblk m c 2 t) (iblk m c 3 t) _ _

theorem lseSum_later (t : Fin cfg0.N) (h : ¬t.val % 8 = 0) (j : S1x1.Idx) :
    (outsAt0 m c t.val t.isLt).2.2.2.2.2.2 j
      = (outsAt0 m c (t.val - 1) (Nat.lt_of_le_of_lt (Nat.sub_le _ _) t.isLt)).2.2.2.2.2.2 j + ∑ r, lseSq (ptRow m c t r) := by
  have hN : cfg0.N = 8 := N_0
  have := t.isLt
  by_cases h2 : t.val % 8 = 7
  · rw [outsAt0_C m c t h (by omega) h2]
    frame_out
    rw [pay8_eq, read_unread_whole, eq_ix2 j]
    exact congrArg (_ + ·) (lseT_apply (iblk m c 0 t) (iblk m c 1 t) (iblk m c 2 t) (iblk m c 3 t) _ _)
  · rw [outsAt0_B m c t h (by omega) h2]
    frame_out
    rw [pay8_eq, read_unread_whole, eq_ix2 j]
    exact congrArg (_ + ·) (lseT_apply (iblk m c 0 t) (iblk m c 1 t) (iblk m c 2 t) (iblk m c 3 t) _ _)

/-- The loss that the last point writes, from the totals it leaves. -/
theorem loss_pt (t : Fin cfg0.N) (h : t.val % 8 = 7) : (outsAt0 m c t.val t.isLt).2.2.2.1
    = k0_pay9 (outsAt0 m c t.val t.isLt).2.2.2.2.1 (outsAt0 m c t.val t.isLt).2.2.2.2.2.1 (outsAt0 m c t.val t.isLt).2.2.2.2.2.2 := by
  rw [outsAt0_C m c t (by omega) (by omega) h]
  frame_out

end Cert.Router

end
-- ==== Proof.Arrays.lean ====
/-
  The kernel's result arrays over the extended reals, in terms of the router logits of the 16384 tokens, and the whole run.
-/
module

public import proofs.«01_k».proof.Proof.Points
public import Idealize.ShloMosaic.Lib.Claim

@[expose] public section

noncomputable section

namespace Cert.Router

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The operands, reshaped by the host -/

theorem V_main_v0 : V m c main_v0 = shapeCast S16384x2048 (m ((c : Thread nD τ).loc main_arg0)) shapeCasts_S4x4096x2048_S16384x2048 := by
  simp only [V, V0, hostOps0, List.flatten_cons, List.flatten_nil, List.append_nil]
  entry_read
  rfl

theorem V_main_v1 : V m c main_v1 = shapeCast S1x64 (m ((c : Thread nD τ).loc main_arg1)) shapeCasts_S64_S1x64 := by
  simp only [V, V0, hostOps0, List.flatten_cons, List.flatten_nil, List.append_nil]
  entry_read
  rfl

theorem V_main_v2 : V m c main_v2 = shapeCast S1x64 (m ((c : Thread nD τ).loc main_arg2)) shapeCasts_S64_S1x64 := by
  simp only [V, V0, hostOps0, List.flatten_cons, List.flatten_nil, List.append_nil]
  entry_read
  rfl

/-! ## The blocks as parts of the arguments -/

/-- The router logits of token `n` (batch `n / 4096`, position `n % 4096`), from the arguments. -/
def tokRow (n : Fin 16384) : Row :=
  rowOf (fun k => m ((c : Thread nD τ).loc main_arg0) (ix3 (⟨n.val / 4096, by omega⟩ : Fin 4) (⟨n.val % 4096, by omega⟩ : Fin 4096) k))
    (fun k e => m ((c : Thread nD τ).loc main_arg3) (ix2 k e))
    (fun e => m ((c : Thread nD τ).loc main_arg1) (ix1 e)) (fun e => m ((c : Thread nD τ).loc main_arg2) (ix1 e))

/-- The windows' block indices. -/
theorem idx : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] := by decide +kernel

/-- Token `r` of point `t`'s block. -/
def ptTok (t : Fin cfg0.N) (r : Fin 2048) : Fin 16384 :=
  ⟨t.val * 2048 + r.val, by have h : cfg0.N = 8 := N_0; have := t.isLt; omega⟩

theorem ptRow_eq (t : Fin cfg0.N) (r : Fin 2048) : ptRow m c t r = tokRow m c (ptTok t r) := by
  have hN : cfg0.N = 8 := N_0
  have ht := t.isLt
  have hx : ∀ k : Fin 2048, (iblk m c 0 t : FVec Ideal S2048x2048 .f32) (ix2 r k)
      = m ((c : Thread nD τ).loc main_arg0) (ix3 (⟨(ptTok t r).val / 4096, by omega⟩ : Fin 4) (⟨(ptTok t r).val % 4096, by omega⟩ : Fin 4096) k) := by
    intro k
    have e : (win0_0.blk t).view.emb (ix2 r k) = ix2 (ptTok t r) k := by blk_ext [idx t, ptTok]
    refine (congrArg (V m c main_v0) e).trans ?_
    rw [V_main_v0]
    refine shapeCast_apply (s := S4x4096x2048) (t := S16384x2048) _ _ _ _ ?_
    rw [Shape.rowMajor_val_three, Shape.rowMajor_val_two]
    show ((ptTok t r).val / 4096 * 4096 + (ptTok t r).val % 4096) * 2048 + k.val = (ptTok t r).val * 2048 + k.val
    omega
  have hw : ∀ (k : Fin 2048) (e : Fin 64), (iblk m c 1 t : FVec Ideal S2048x64 .f32) (ix2 k e)
      = m ((c : Thread nD τ).loc main_arg3) (ix2 k e) := by
    intro k e
    blk_ext! [iblk, V, idx t]
  have hb : ∀ e : Fin 64, (iblk m c 2 t : FVec Ideal S1x64 .f32) (ix2 0 e) = m ((c : Thread nD τ).loc main_arg1) (ix1 e) := by
    intro e
    have h : (win0_2.blk t).view.emb (ix2 0 e) = ix2 0 e := by blk_ext [idx t]
    refine (congrArg (V m c main_v1) h).trans ?_
    rw [V_main_v1]
    pointwise
  have htm : ∀ e : Fin 64, (iblk m c 3 t : FVec Ideal S1x64 .f32) (ix2 0 e) = m ((c : Thread nD τ).loc main_arg2) (ix1 e) := by
    intro e
    have h : (win0_3.blk t).view.emb (ix2 0 e) = ix2 0 e := by blk_ext [idx t]
    refine (congrArg (V m c main_v2) h).trans ?_
    rw [V_main_v2]
    pointwise
  unfold ptRow blkRow tokRow
  simp only [hx, hw, hb, htm]

/-! ## The result arrays -/

theorem weights_arr : (dats m 0 c).arrAt 4 cfg0.N = (fun i => weight (tokRow m c (i 0)) : FVec Ideal S16384x1 .f32) := by
  refine (dats m 0 c).arrAt_eq_of_covers 4 _ (by decide +kernel) fun t hf y => ?_
  blk_simp
  rw [after0_4, weights_pt]
  refine (congrArg weight (ptRow_eq m c t (y 0))).trans (congrArg (fun n => weight (tokRow m c n)) (Fin.ext ?_))
  blk_simp [idx t, ptTok]

theorem picks_arr : (dats m 0 c).arrAt 5 cfg0.N = (fun i => pick (tokRow m c (i 0)) : IVec S16384x1 32) := by
  refine (dats m 0 c).arrAt_eq_of_covers 5 _ (by decide +kernel) fun t hf y => ?_
  blk_simp
  rw [after0_5, picks_pt]
  refine (congrArg pick (ptRow_eq m c t (y 0))).trans (congrArg (fun n => pick (tokRow m c n)) (Fin.ext ?_))
  blk_simp [idx t, ptTok]

theorem probs_arr : (dats m 0 c).arrAt 6 cfg0.N = (fun i => prob (tokRow m c (i 0)) (i 1) : FVec Ideal S16384x64 .f32) := by
  refine (dats m 0 c).arrAt_eq_of_covers 6 _ (by decide +kernel) fun t hf y => ?_
  blk_simp
  rw [after0_6, probs_pt]
  refine (congrArg (fun l => prob l (y 1)) (ptRow_eq m c t (y 0))).trans
    (congrArg₂ (fun n e => prob (tokRow m c n) e) (Fin.ext ?_) (Fin.ext ?_))
  · blk_simp [idx t, ptTok]
  · blk_simp [idx t]

/-- A sum over the points' blocks is the sum over the tokens. -/
theorem sum_points (f : Fin 16384 → EReal) : ∑ t : Fin cfg0.N, ∑ r : Fin 2048, f (ptTok t r) = ∑ n, f n := by
  rw [← Fin.sum_mul_add_fin 8 2048 f]
  rfl

/-- The totals over all tokens that the last point leaves. -/
theorem count_last (j : S1x64.Idx) : (outsAt0 m c t0_7.val t0_7.isLt).2.2.2.2.1 j
    = ∑ n, (if pick (tokRow m c n) = BitVec.ofNat 32 (j 1 : Fin 64).val then 1 else 0 : EReal) := by
  rw [Pipeline.eq_sum_fin_of_reset_step_apply_last (fun n h => (outsAt0 m c n h).2.2.2.2.1) 8 (fun _ => (0 : EReal)) _
    (count_first m c) (count_later m c) (le_of_eq N_0) t0_7 rfl j, zero_add]
  simp only [ptRow_eq]
  exact sum_points fun n => if pick (tokRow m c n) = BitVec.ofNat 32 (j 1 : Fin 64).val then 1 else 0

theorem probSum_last (j : S1x64.Idx) : (outsAt0 m c t0_7.val t0_7.isLt).2.2.2.2.2.1 j = ∑ n, prob (tokRow m c n) (j 1) := by
  rw [Pipeline.eq_sum_fin_of_reset_step_apply_last (fun n h => (outsAt0 m c n h).2.2.2.2.2.1) 8 (fun _ => (0 : EReal)) _
    (probSum_first m c) (probSum_later m c) (le_of_eq N_0) t0_7 rfl j, zero_add]
  simp only [ptRow_eq]
  exact sum_points fun n => prob (tokRow m c n) (j 1)

theorem lseSum_last (j : S1x1.Idx) : (outsAt0 m c t0_7.val t0_7.isLt).2.2.2.2.2.2 j = ∑ n, lseSq (tokRow m c n) := by
  rw [Pipeline.eq_sum_fin_of_reset_step_apply_last (fun n h => (outsAt0 m c n h).2.2.2.2.2.2) 8 (fun _ => (0 : EReal)) _
    (lseSum_first m c) (lseSum_later m c) (le_of_eq N_0) t0_7 rfl j, zero_add]
  simp only [ptRow_eq]
  exact sum_points fun n => lseSq (tokRow m c n)

/-- The loss as the kernel computes it, from every token's row of logits. -/
def loss (L : Fin 16384 → Row) : EReal :=
  Ideal.ofBits .f32 0x3C23D70A#32 * (Ideal.ofBits .f32 0x42800000#32 * ∑ e : Fin 64,
      (∑ n, (if pick (L n) = BitVec.ofNat 32 e.val then 1 else 0 : EReal)) * Ideal.ofBits .f32 0x38800000#32
        * ((∑ n, prob (L n) e) * Ideal.ofBits .f32 0x38800000#32))
    + Ideal.ofBits .f32 0x3A83126F#32 * ((∑ n, lseSq (L n)) * Ideal.ofBits .f32 0x38800000#32)

theorem pay9_apply (f p : FVec Ideal S1x64 .f32) (z : FVec Ideal S1x1 .f32) (j : S1x1.Idx) : k0_pay9 f p z j
    = Ideal.ofBits .f32 0x3C23D70A#32 * (Ideal.ofBits .f32 0x42800000#32 * ∑ e : Fin 64,
        f (ix2 0 e) * Ideal.ofBits .f32 0x38800000#32 * (p (ix2 0 e) * Ideal.ofBits .f32 0x38800000#32))
      + Ideal.ofBits .f32 0x3A83126F#32 * (z (ix2 0 0) * Ideal.ofBits .f32 0x38800000#32) := by
  have hj : j = ix2 0 0 := by rw [eq_ix2 j]; congr 1 <;> exact Subsingleton.elim _ _
  subst hj
  unfold k0_pay9
  pointwise
  rw [Fin.sum_univ_one]

theorem loss_arr : (dats m 0 c).arrAt 7 cfg0.N = (fun _ => loss (tokRow m c) : FVec Ideal S1x1 .f32) := by
  refine (dats m 0 c).arrAt_eq_of_after_last 7 t0_7 (by decide +kernel) _ fun j => ?_
  blk_simp
  rw [after0_7, loss_pt m c t0_7 (by decide), pay9_apply, lseSum_last]
  simp only [count_last, probSum_last]
  rfl

/-! ## The results, reshaped by the host -/

/-- What the region leaves of window `w`'s array. -/
theorem exit_arr (w : Fin cfg0.W) :
    Pipeline.withArrays (cfgs 0).spec c (V0 m c) (fun w => (dats m 0 c).arrAt w (cfgs 0).N) (Proc.devRef .tc (Pipeline.arrRef (cfgs 0).spec w))
      = (dats m 0 c).arrAt w cfg0.N :=
  Pipeline.withArrays_arr (cfgs 0).spec (by decide +kernel) c _ _ w

theorem tail_v4 : Pipeline.afterTail₀ cfgs (dats m) 0 (V0 m) [hostOps1] c main_v4
    = shapeCast S4x4096x1 (fun i => weight (tokRow m c (i 0)) : FVec Ideal S16384x1 .f32) shapeCasts_S16384x1_S4x4096x1 := by
  rw [← weights_arr, ← exit_arr]
  unfold Pipeline.afterTail₀
  simp only [hostOps1, List.flatten_cons, List.flatten_nil, List.append_nil]
  after_results
  rfl

theorem tail_v5 : Pipeline.afterTail₀ cfgs (dats m) 0 (V0 m) [hostOps1] c main_v5
    = shapeCast S4x4096x1 (fun i => pick (tokRow m c (i 0)) : IVec S16384x1 32) shapeCasts_S16384x1_S4x4096x1 := by
  rw [← picks_arr, ← exit_arr]
  unfold Pipeline.afterTail₀
  simp only [hostOps1, List.flatten_cons, List.flatten_nil, List.append_nil]
  after_results
  rfl

theorem tail_v6 : Pipeline.afterTail₀ cfgs (dats m) 0 (V0 m) [hostOps1] c main_v6
    = shapeCast S4x4096x64 (fun i => prob (tokRow m c (i 0)) (i 1) : FVec Ideal S16384x64 .f32) shapeCasts_S16384x64_S4x4096x64 := by
  rw [← probs_arr, ← exit_arr]
  unfold Pipeline.afterTail₀
  simp only [hostOps1, List.flatten_cons, List.flatten_nil, List.append_nil]
  after_results
  rfl

theorem tail_v7 : Pipeline.afterTail₀ cfgs (dats m) 0 (V0 m) [hostOps1] c main_v7
    = shapeCast S_ (fun _ => loss (tokRow m c) : FVec Ideal S1x1 .f32) shapeCasts_S1x1_S_ := by
  rw [← loss_arr, ← exit_arr]
  unfold Pipeline.afterTail₀
  simp only [hostOps1, List.flatten_cons, List.flatten_nil, List.append_nil]
  after_results
  rfl

/-! ## The run -/

theorem run (ρ : Dev nD → PrngReg) : θ_run defs (onTc (τ := τ) (main (F := Ideal))) ⟨m, fun _ => 0, ρ⟩ fun r => ∀ c : Dev nD,
      r.2.mem ((c : Thread nD τ).loc main_v4)
          = shapeCast S4x4096x1 (fun i => weight (tokRow m c (i 0)) : FVec Ideal S16384x1 .f32) shapeCasts_S16384x1_S4x4096x1
      ∧ r.2.mem ((c : Thread nD τ).loc main_v5)
          = shapeCast S4x4096x1 (fun i => pick (tokRow m c (i 0)) : IVec S16384x1 32) shapeCasts_S16384x1_S4x4096x1
      ∧ r.2.mem ((c : Thread nD τ).loc main_v6)
          = shapeCast S4x4096x64 (fun i => prob (tokRow m c (i 0)) (i 1) : FVec Ideal S16384x64 .f32) shapeCasts_S16384x64_S4x4096x64
      ∧ r.2.mem ((c : Thread nD τ).loc main_v7)
          = shapeCast S_ (fun _ => loss (tokRow m c) : FVec Ideal S1x1 .f32) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from run_main m ρ
  · exact tail_v4 m c
  · exact tail_v5 m c
  · exact tail_v6 m c
  · exact tail_v7 m c
  · exact W_main_arg0 m (dats m) c
  · exact W_main_arg1 m (dats m) c
  · exact W_main_arg2 m (dats m) c

end Cert.Router

end
-- ==== Proof.RefRun.lean ====
/-
  What the reference computes, in named steps: logits, softmax, routing weight, chosen expert, auxiliary loss —
  and its run: every result buffer ends at the step that names it, of the arguments' launch contents.
-/
module

public import proofs.«01_k».proof.Proof.Gen.ReferenceIdeal
public import Idealize.ShloMosaic.Lib.StableHlo.Run

@[expose] public section

noncomputable section

namespace Cert.RouterRef

open Cert.ReferenceIdeal Cert.ReferenceIdeal.Gen Idealize.ShloMosaic Idealize.ShloMosaic.TcCoe Idealize.SL.Sem
open Idealize.ShloMosaic.StableHlo

variable {F : FTy → Type} [FloatOps F]

/-! ## The steps -/

/-- The temperature of each expert, held between 0.1 and 10. -/
def temper (t : FVec F S64 .f32) : FVec F S64 .f32 :=
  minimumf (broadcastInDim S64 ![] bcast_S_S64 (id (constant S_ .f32 0x41200000#32)))
    (maximumf (broadcastInDim S64 ![] bcast_S_S64 (id (constant S_ .f32 0x3DCCCCCD#32))) t)

/-- A value per expert, repeated for every token. -/
def perExpert (v : FVec F S64 .f32) : FVec F S4x4096x64 .f32 :=
  broadcastInDim S4x4096x64 ![0, 1, 2] bcast_S1x1x64_S4x4096x64_0_1_2 (broadcastInDim S1x1x64 ![2] bcast_S64_S1x1x64_2 v)

/-- A value per token as a column, and a column repeated for every expert. -/
def column {α : Type} (v : S4x4096.Idx → α) : S4x4096x1.Idx → α :=
  broadcastInDim S4x4096x1 ![0, 1] bcast_S4x4096_S4x4096x1_0_1 v
def across (v : FVec F S4x4096x1 .f32) : FVec F S4x4096x64 .f32 :=
  broadcastInDim S4x4096x64 ![0, 1, 2] bcast_S4x4096x1_S4x4096x64_0_1_2 v

/-- The router logits: `(x · w + b) / temper t`. -/
def logits (x : FVec F S4x4096x2048 .f32) (b t : FVec F S64 .f32) (w : FVec F S2048x64 .f32) : FVec F S4x4096x64 .f32 :=
  Host.divf (addf (Host.dotGeneral dot_S4x4096x2048_S2048x64_S4x4096x64_2_0_01_1_n_n none x w) (perExpert b))
    (perExpert (temper t))

/-- A token's largest entry, and the sum of its entries. -/
def rowMax (l : FVec F S4x4096x64 .f32) : FVec F S4x4096 .f32 :=
  Host.reduce FloatOps.maximumf l (constant S_ .f32 0xFF800000#32) reducesTo_S4x4096x64_S4x4096_d2 h_S_
def rowSum (l : FVec F S4x4096x64 .f32) : FVec F S4x4096 .f32 :=
  Host.reduceAdd l (constant S_ .f32 0x00000000#32) reducesTo_S4x4096x64_S4x4096_d2 h_S_

/-- The softmax's numerators: `exp (l - max l)`. -/
def expo (l : FVec F S4x4096x64 .f32) : FVec F S4x4096x64 .f32 :=
  Host.exp (subf l (across (column (maximumf (broadcastInDim S4x4096 ![] bcast_S_S4x4096 (constant S_ .f32 0xFF800000#32)) (rowMax l)))))

/-- The softmax of the logits. -/
def probs (l : FVec F S4x4096x64 .f32) : FVec F S4x4096x64 .f32 :=
  Host.divf (expo l) (across (column (rowSum (expo l))))

/-- Each token's routing weight: its largest probability. -/
def weights (p : FVec F S4x4096x64 .f32) : FVec F S4x4096x1 .f32 := column (rowMax p)

/-- Each token's expert: where its largest probability is first met. -/
def chosen (p : FVec F S4x4096x64 .f32) : IVec S4x4096 32 := fun j =>
  (Host.argReduce reducer_argmax_f32_i32 p (iotaInDim S4x4096x64 32 2) (constant S_ .f32 0xFF800000#32) (constantI S_ 32 0#32)
    reducesTo_S4x4096x64_S4x4096_d2 h_S_ j).2

/-- The tokens' experts as one list of indices into the 64 counts: held at 0 from below, a negative one wrapped. -/
def slots (s : IVec S4x4096 32) : IVec S16384 32 :=
  maxsi (broadcastInDim S16384 ![] bcast_S_S16384 (id (constantI S_ 32 0#32))) (shapeCast S16384 s shapeCasts_S4x4096_S16384)
def wrapped (k : IVec S16384 32) : IVec S16384 32 :=
  select (cmpi .slt k (broadcastInDim S16384 ![] bcast_S_S16384 (constantI S_ 32 0#32)))
    (addi k (broadcastInDim S16384 ![] bcast_S_S16384 (constantI S_ 32 64#32))) k

/-- How many tokens went to each expert. -/
def counts (s : IVec S4x4096 32) : IVec S64 32 :=
  Host.scatter scatter_S64_S16384x1_S16384_n_0_0_1 IntOp.addi (broadcastInDim S64 ![] bcast_S_S64 (constantI S_ 32 0#32))
    (broadcastInDim S16384x1 ![0] bcast_S16384_S16384x1_0 (wrapped (slots s)))
    (broadcastInDim S16384 ![] bcast_S_S16384 (constantI S_ 32 1#32))

/-- A value per expert over the number of tokens. -/
def overTokens (v : FVec F S64 .f32) : FVec F S64 .f32 :=
  Host.divf v (broadcastInDim S64 ![] bcast_S_S64 (constant S_ .f32 0x46800000#32))

/-- The load-balance term: 64 times the sum of share times mean probability. -/
def balance (p : FVec F S4x4096x64 .f32) (s : IVec S4x4096 32) : FVec F S_ .f32 :=
  mulf (constant S_ .f32 0x42800000#32)
    (Host.reduceAdd (mulf (overTokens (sitofp .f32 (counts s)))
        (overTokens (Host.reduceAdd p (constant S_ .f32 0x00000000#32) reducesTo_S4x4096x64_S64_d0_1 h_S_)))
      (constant S_ .f32 0x00000000#32) reducesTo_S64_S_d0 h_S_)

/-- The entry a token's log-sum-exp takes out: its largest logit where that is finite, 0 elsewhere. -/
def takenOut (l : FVec F S4x4096x64 .f32) : FVec F S4x4096x1 .f32 :=
  select (cmpf .olt (Host.absf (column (rowMax l))) (broadcastInDim S4x4096x1 ![] bcast_S_S4x4096x1 (constant S_ .f32 0x7F800000#32)))
    (column (rowMax l)) (broadcastInDim S4x4096x1 ![] bcast_S_S4x4096x1 (id (constant S_ .f32 0x00000000#32)))

/-- Each token's log-sum-exp. -/
def lse (l : FVec F S4x4096x64 .f32) : FVec F S4x4096 .f32 :=
  shapeCast S4x4096 (addf (Host.log (column (rowSum (Host.exp (subf l (across (takenOut l))))))) (takenOut l))
    shapeCasts_S4x4096x1_S4x4096

/-- The mean square of the tokens' log-sum-exp. -/
def zLoss (l : FVec F S4x4096x64 .f32) : FVec F S_ .f32 :=
  Host.divf (Host.reduceAdd (mulf (lse l) (lse l)) (constant S_ .f32 0x00000000#32) reducesTo_S4x4096_S_d0_1 h_S_)
    (constant S_ .f32 0x46800000#32)

/-- The auxiliary loss. -/
def aux (l p : FVec F S4x4096x64 .f32) (s : IVec S4x4096 32) : FVec F S_ .f32 :=
  addf (mulf (constant S_ .f32 0x3C23D70A#32) (balance p s)) (mulf (constant S_ .f32 0x3A83126F#32) (zLoss l))

/-! ## The run -/

/-- The logits of a memory's arguments. -/
abbrev logitsOf (m : (ℓ : Loc nD τ sig) → Buf (Elt F) ℓ) (c : Dev nD) : FVec F S4x4096x64 .f32 :=
  logits (m ((c.tc : Thread nD τ).loc main_arg0)) (m ((c.tc : Thread nD τ).loc main_arg1))
    (m ((c.tc : Thread nD τ).loc main_arg2)) (m ((c.tc : Thread nD τ).loc main_arg3))

/-- The program's operations in order, those of the functions it calls in their calls' places. -/
abbrev steps : List (HloOp τ sig (Elt F)) :=
  [ binary main_arg0 main_arg3 main_v0 ((fun l r => Host.dotGeneral dot_S4x4096x2048_S2048x64_S4x4096x64_2_0_01_1_n_n none l r) : (⟨S4x4096x2048, .f32⟩ : BufTy).Contents (Elt F) → (⟨S2048x64, .f32⟩ : BufTy).Contents (Elt F) → (⟨S4x4096x64, .f32⟩ : BufTy).Contents (Elt F)),
    unary main_arg1 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S4x4096x64 ![0, 1, 2] bcast_S1x1x64_S4x4096x64_0_1_2 : (⟨S1x1x64, .f32⟩ : BufTy).Contents (Elt F) → (⟨S4x4096x64, .f32⟩ : BufTy).Contents (Elt F)),
    binary main_v0 main_v2 main_v3 (addf : (⟨S4x4096x64, .f32⟩ : BufTy).Contents (Elt F) → (⟨S4x4096x64, .f32⟩ : BufTy).Contents (Elt F) → (⟨S4x4096x64, .f32⟩ : BufTy).Contents (Elt F)),
    nullary main_cst (constant S_ .f32 0x3DCCCCCD#32),
    nullary main_cst_0 (constant S_ .f32 0x41200000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S64, .f32⟩) main_call0_v1) (broadcastInDim S64 ![] bcast_S_S64),
    TRef.binary (TRef.of (T := ⟨S64, .f32⟩) main_call0_v1) (TRef.of (T := ⟨S64, .f32⟩) main_arg2) (TRef.of (T := ⟨S64, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S64, .f32⟩) main_call0_v4) (broadcastInDim S64 ![] bcast_S_S64),
    TRef.binary (TRef.of (T := ⟨S64, .f32⟩) main_call0_v4) (TRef.of (T := ⟨S64, .f32⟩) main_call0_v2) (TRef.of (T := ⟨S64, .f32⟩) main_v4) minimumf,
    unary main_v4 main_v5 (broadcastInDim S1x1x64 ![2] bcast_S64_S1x1x64_2 : (⟨S64, .f32⟩ : BufTy).Contents (Elt F) → (⟨S1x1x64, .f32⟩ : BufTy).Contents (Elt F)),
    unary main_v5 main_v6 (broadcastInDim S4x4096x64 ![0, 1, 2] bcast_S1x1x64_S4x4096x64_0_1_2 : (⟨S1x1x64, .f32⟩ : BufTy).Contents (Elt F) → (⟨S4x4096x64, .f32⟩ : BufTy).Contents (Elt F)),
    binary main_v3 main_v6 main_v7 (Host.divf : (⟨S4x4096x64, .f32⟩ : BufTy).Contents (Elt F) → (⟨S4x4096x64, .f32⟩ : BufTy).Contents (Elt F) → (⟨S4x4096x64, .f32⟩ : BufTy).Contents (Elt F)),
    nullary main_cst_1 (constant S_ .f32 0xFF800000#32),
    binary main_v7 main_cst_1 main_v8 ((fun x v => Host.reduce FloatOps.maximumf x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    nullary main_cst_2 (constant S_ .f32 0xFF800000#32),
    unary main_cst_2 main_v9 (broadcastInDim S4x4096 ![] bcast_S_S4x4096 : (⟨S_, .f32⟩ : BufTy).Contents (Elt F) → (⟨S4x4096, .f32⟩ : BufTy).Contents (Elt F)),
    binary main_v9 main_v8 main_v10 (maximumf : (⟨S4x4096, .f32⟩ : BufTy).Contents (Elt F) → (⟨S4x4096, .f32⟩ : BufTy).Contents (Elt F) → (⟨S4x4096, .f32⟩ : BufTy).Contents (Elt F)),
    unary main_v10 main_v11 (broadcastInDim S4x4096x1 ![0, 1] bcast_S4x4096_S4x4096x1_0_1 : (⟨S4x4096, .f32⟩ : BufTy).Contents (Elt F) → (⟨S4x4096x1, .f32⟩ : BufTy).Contents (Elt F)),
    unary main_v11 main_v12 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    binary main_v7 main_v12 main_v13 (subf : (⟨S4x4096x64, .f32⟩ : BufTy).Contents (Elt F) → (⟨S4x4096x64, .f32⟩ : BufTy).Contents (Elt F) → (⟨S4x4096x64, .f32⟩ : BufTy).Contents (Elt F)),
    unary main_v13 main_v14 (Host.exp : (⟨S4x4096x64, .f32⟩ : BufTy).Contents (Elt F) → (⟨S4x4096x64, .f32⟩ : BufTy).Contents (Elt F)),
    nullary main_cst_3 (constant S_ .f32 0x00000000#32),
    binary main_v14 main_cst_3 main_v15 ((fun x v => Host.reduceAdd x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    unary main_v15 main_v16 (broadcastInDim S4x4096x1 ![0, 1] bcast_S4x4096_S4x4096x1_0_1 : (⟨S4x4096, .f32⟩ : BufTy).Contents (Elt F) → (⟨S4x4096x1, .f32⟩ : BufTy).Contents (Elt F)),
    unary main_v16 main_v17 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    binary main_v14 main_v17 main_v18 (Host.divf : (⟨S4x4096x64, .f32⟩ : BufTy).Contents (Elt F) → (⟨S4x4096x64, .f32⟩ : BufTy).Contents (Elt F) → (⟨S4x4096x64, .f32⟩ : BufTy).Contents (Elt F)),
    nullary main_cst_4 (constant S_ .f32 0xFF800000#32),
    binary main_v18 main_cst_4 main_v19 ((fun x v => Host.reduce FloatOps.maximumf x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    unary main_v19 main_v20 (broadcastInDim S4x4096x1 ![0, 1] bcast_S4x4096_S4x4096x1_0_1 : (⟨S4x4096, .f32⟩ : BufTy).Contents (Elt F) → (⟨S4x4096x1, .f32⟩ : BufTy).Contents (Elt F)),
    TRef.nullary (TRef.of (T := ⟨S4x4096x64, .i32⟩) main_call1_v0) (iotaInDim S4x4096x64 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x4096x64, .f32⟩) main_v18) (TRef.of (T := ⟨S4x4096x64, .i32⟩) main_call1_v0) (TRef.of (T := ⟨S_, .f32⟩) main_call1_cst) (TRef.of (T := ⟨S_, .i32⟩) main_call1_c) (TRef.of (T := ⟨S4x4096, .f32⟩) main_call1_v1_0) (fun x y u v j => (Host.argReduce reducer_argmax_f32_i32 x y u v reducesTo_S4x4096x64_S4x4096_d2 h_S_ j).1),
    TRef.quaternary (TRef.of (T := ⟨S4x4096x64, .f32⟩) main_v18) (TRef.of (T := ⟨S4x4096x64, .i32⟩) main_call1_v0) (TRef.of (T := ⟨S_, .f32⟩) main_call1_cst) (TRef.of (T := ⟨S_, .i32⟩) main_call1_c) (TRef.of (T := ⟨S4x4096, .i32⟩) main_v21) (fun x y u v j => (Host.argReduce reducer_argmax_f32_i32 x y u v reducesTo_S4x4096x64_S4x4096_d2 h_S_ j).2),
    reshape main_v21 main_v22 (rfl : (.i32 : EltTy) = .i32) shapeCasts_S4x4096_S16384,
    nullary main_c (constantI S_ 32 0#32),
    unary main_c main_v23 (broadcastInDim S64 ![] bcast_S_S64 : (⟨S_, .i32⟩ : BufTy).Contents (Elt F) → (⟨S64, .i32⟩ : BufTy).Contents (Elt F)),
    nullary main_c_5 (constantI S_ 32 0#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S16384, .i32⟩) main_call2_v1) (broadcastInDim S16384 ![] bcast_S_S16384),
    TRef.binary (TRef.of (T := ⟨S16384, .i32⟩) main_call2_v1) (TRef.of (T := ⟨S16384, .i32⟩) main_v22) (TRef.of (T := ⟨S16384, .i32⟩) main_v24) maxsi,
    nullary main_c_6 (constantI S_ 32 0#32),
    unary main_c_6 main_v25 (broadcastInDim S16384 ![] bcast_S_S16384 : (⟨S_, .i32⟩ : BufTy).Contents (Elt F) → (⟨S16384, .i32⟩ : BufTy).Contents (Elt F)),
    binary main_v24 main_v25 main_v26 (cmpi .slt : (⟨S16384, .i32⟩ : BufTy).Contents (Elt F) → (⟨S16384, .i32⟩ : BufTy).Contents (Elt F) → (⟨S16384, .i1⟩ : BufTy).Contents (Elt F)),
    nullary main_c_7 (constantI S_ 32 64#32),
    unary main_c_7 main_v27 (broadcastInDim S16384 ![] bcast_S_S16384 : (⟨S_, .i32⟩ : BufTy).Contents (Elt F) → (⟨S16384, .i32⟩ : BufTy).Contents (Elt F)),
    binary main_v24 main_v27 main_v28 (addi : (⟨S16384, .i32⟩ : BufTy).Contents (Elt F) → (⟨S16384, .i32⟩ : BufTy).Contents (Elt F) → (⟨S16384, .i32⟩ : BufTy).Contents (Elt F)),
    ternary main_v26 main_v28 main_v24 main_v29 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v29 main_v30 (broadcastInDim S16384x1 ![0] bcast_S16384_S16384x1_0 : (⟨S16384, .i32⟩ : BufTy).Contents (Elt F) → (⟨S16384x1, .i32⟩ : BufTy).Contents (Elt F)),
    nullary main_c_8 (constantI S_ 32 1#32),
    unary main_c_8 main_v31 (broadcastInDim S16384 ![] bcast_S_S16384 : (⟨S_, .i32⟩ : BufTy).Contents (Elt F) → (⟨S16384, .i32⟩ : BufTy).Contents (Elt F)),
    ternary main_v23 main_v30 main_v31 main_v32 ((fun x i u => Host.scatter scatter_S64_S16384x1_S16384_n_0_0_1 IntOp.addi x i u) : (⟨S64, .i32⟩ : BufTy).Contents (Elt F) → (⟨S16384x1, .i32⟩ : BufTy).Contents (Elt F) → (⟨S16384, .i32⟩ : BufTy).Contents (Elt F) → (⟨S64, .i32⟩ : BufTy).Contents (Elt F)),
    unary main_v32 main_v33 (sitofp .f32 : (⟨S64, .i32⟩ : BufTy).Contents (Elt F) → (⟨S64, .f32⟩ : BufTy).Contents (Elt F)),
    nullary main_cst_9 (constant S_ .f32 0x46800000#32),
    unary main_cst_9 main_v34 (broadcastInDim S64 ![] bcast_S_S64 : (⟨S_, .f32⟩ : BufTy).Contents (Elt F) → (⟨S64, .f32⟩ : BufTy).Contents (Elt F)),
    binary main_v33 main_v34 main_v35 (Host.divf : (⟨S64, .f32⟩ : BufTy).Contents (Elt F) → (⟨S64, .f32⟩ : BufTy).Contents (Elt F) → (⟨S64, .f32⟩ : BufTy).Contents (Elt F)),
    nullary main_cst_10 (constant S_ .f32 0x00000000#32),
    binary main_v18 main_cst_10 main_v36 ((fun x v => Host.reduceAdd x v reducesTo_S4x4096x64_S64_d0_1 h_S_) : (⟨S4x4096x64, .f32⟩ : BufTy).Contents (Elt F) → (⟨S_, .f32⟩ : BufTy).Contents (Elt F) → (⟨S64, .f32⟩ : BufTy).Contents (Elt F)),
    nullary main_cst_11 (constant S_ .f32 0x46800000#32),
    unary main_cst_11 main_v37 (broadcastInDim S64 ![] bcast_S_S64 : (⟨S_, .f32⟩ : BufTy).Contents (Elt F) → (⟨S64, .f32⟩ : BufTy).Contents (Elt F)),
    binary main_v36 main_v37 main_v38 (Host.divf : (⟨S64, .f32⟩ : BufTy).Contents (Elt F) → (⟨S64, .f32⟩ : BufTy).Contents (Elt F) → (⟨S64, .f32⟩ : BufTy).Contents (Elt F)),
    binary main_v35 main_v38 main_v39 (mulf : (⟨S64, .f32⟩ : BufTy).Contents (Elt F) → (⟨S64, .f32⟩ : BufTy).Contents (Elt F) → (⟨S64, .f32⟩ : BufTy).Contents (Elt F)),
    nullary main_cst_12 (constant S_ .f32 0x00000000#32),
    binary main_v39 main_cst_12 main_v40 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_13 (constant S_ .f32 0x42800000#32),
    binary main_cst_13 main_v40 main_v41 (mulf : (⟨S_, .f32⟩ : BufTy).Contents (Elt F) → (⟨S_, .f32⟩ : BufTy).Contents (Elt F) → (⟨S_, .f32⟩ : BufTy).Contents (Elt F)),
    nullary main_cst_14 (constant S_ .f32 0xFF800000#32),
    binary main_v7 main_cst_14 main_v42 ((fun x v => Host.reduce FloatOps.maximumf x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    unary main_v42 main_v43 (broadcastInDim S4x4096x1 ![0, 1] bcast_S4x4096_S4x4096x1_0_1 : (⟨S4x4096, .f32⟩ : BufTy).Contents (Elt F) → (⟨S4x4096x1, .f32⟩ : BufTy).Contents (Elt F)),
    unary main_v43 main_v44 (Host.absf : (⟨S4x4096x1, .f32⟩ : BufTy).Contents (Elt F) → (⟨S4x4096x1, .f32⟩ : BufTy).Contents (Elt F)),
    nullary main_cst_15 (constant S_ .f32 0x7F800000#32),
    unary main_cst_15 main_v45 (broadcastInDim S4x4096x1 ![] bcast_S_S4x4096x1 : (⟨S_, .f32⟩ : BufTy).Contents (Elt F) → (⟨S4x4096x1, .f32⟩ : BufTy).Contents (Elt F)),
    binary main_v44 main_v45 main_v46 (cmpf .olt : (⟨S4x4096x1, .f32⟩ : BufTy).Contents (Elt F) → (⟨S4x4096x1, .f32⟩ : BufTy).Contents (Elt F) → (⟨S4x4096x1, .i1⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S4x4096x1, .f32⟩) main_call3_v1) (broadcastInDim S4x4096x1 ![] bcast_S_S4x4096x1),
    TRef.ternary (TRef.of (T := ⟨S4x4096x1, .i1⟩) main_v46) (TRef.of (T := ⟨S4x4096x1, .f32⟩) main_v43) (TRef.of (T := ⟨S4x4096x1, .f32⟩) main_call3_v1) (TRef.of (T := ⟨S4x4096x1, .f32⟩) main_v47) select,
    unary main_v47 main_v48 (broadcastInDim S4x4096x64 ![0, 1, 2] bcast_S4x4096x1_S4x4096x64_0_1_2 : (⟨S4x4096x1, .f32⟩ : BufTy).Contents (Elt F) → (⟨S4x4096x64, .f32⟩ : BufTy).Contents (Elt F)),
    binary main_v7 main_v48 main_v49 (subf : (⟨S4x4096x64, .f32⟩ : BufTy).Contents (Elt F) → (⟨S4x4096x64, .f32⟩ : BufTy).Contents (Elt F) → (⟨S4x4096x64, .f32⟩ : BufTy).Contents (Elt F)),
    unary main_v49 main_v50 (Host.exp : (⟨S4x4096x64, .f32⟩ : BufTy).Contents (Elt F) → (⟨S4x4096x64, .f32⟩ : BufTy).Contents (Elt F)),
    nullary main_cst_17 (constant S_ .f32 0x00000000#32),
    binary main_v50 main_cst_17 main_v51 ((fun x v => Host.reduceAdd x v reducesTo_S4x4096x64_S4x4096_d2 h_S_) : (⟨S4x4096x64, .f32⟩ : BufTy).Contents (Elt F) → (⟨S_, .f32⟩ : BufTy).Contents (Elt F) → (⟨S4x4096, .f32⟩ : BufTy).Contents (Elt F)),
    unary main_v51 main_v52 (broadcastInDim S4x4096x1 ![0, 1] bcast_S4x4096_S4x4096x1_0_1 : (⟨S4x4096, .f32⟩ : BufTy).Contents (Elt F) → (⟨S4x4096x1, .f32⟩ : BufTy).Contents (Elt F)),
    unary main_v52 main_v53 (Host.log : (⟨S4x4096x1, .f32⟩ : BufTy).Contents (Elt F) → (⟨S4x4096x1, .f32⟩ : BufTy).Contents (Elt F)),
    binary main_v53 main_v47 main_v54 (addf : (⟨S4x4096x1, .f32⟩ : BufTy).Contents (Elt F) → (⟨S4x4096x1, .f32⟩ : BufTy).Contents (Elt F) → (⟨S4x4096x1, .f32⟩ : BufTy).Contents (Elt F)),
    reshape main_v54 main_v55 (rfl : (.f32 : EltTy) = .f32) shapeCasts_S4x4096x1_S4x4096,
    binary main_v55 main_v55 main_v56 (mulf : (⟨S4x4096, .f32⟩ : BufTy).Contents (Elt F) → (⟨S4x4096, .f32⟩ : BufTy).Contents (Elt F) → (⟨S4x4096, .f32⟩ : BufTy).Contents (Elt F)),
    nullary main_cst_18 (constant S_ .f32 0x00000000#32),
    binary main_v56 main_cst_18 main_v57 ((fun x v => Host.reduceAdd x v reducesTo_S4x4096_S_d0_1 h_S_) : (⟨S4x4096, .f32⟩ : BufTy).Contents (Elt F) → (⟨S_, .f32⟩ : BufTy).Contents (Elt F) → (⟨S_, .f32⟩ : BufTy).Contents (Elt F)),
    nullary main_cst_19 (constant S_ .f32 0x46800000#32),
    binary main_v57 main_cst_19 main_v58 (Host.divf : (⟨S_, .f32⟩ : BufTy).Contents (Elt F) → (⟨S_, .f32⟩ : BufTy).Contents (Elt F) → (⟨S_, .f32⟩ : BufTy).Contents (Elt F)),
    nullary main_cst_20 (constant S_ .f32 0x3C23D70A#32),
    binary main_cst_20 main_v41 main_v59 (mulf : (⟨S_, .f32⟩ : BufTy).Contents (Elt F) → (⟨S_, .f32⟩ : BufTy).Contents (Elt F) → (⟨S_, .f32⟩ : BufTy).Contents (Elt F)),
    nullary main_cst_21 (constant S_ .f32 0x3A83126F#32),
    binary main_cst_21 main_v58 main_v60 (mulf : (⟨S_, .f32⟩ : BufTy).Contents (Elt F) → (⟨S_, .f32⟩ : BufTy).Contents (Elt F) → (⟨S_, .f32⟩ : BufTy).Contents (Elt F)),
    binary main_v59 main_v60 main_v61 (addf : (⟨S_, .f32⟩ : BufTy).Contents (Elt F) → (⟨S_, .f32⟩ : BufTy).Contents (Elt F) → (⟨S_, .f32⟩ : BufTy).Contents (Elt F)),
    unary main_v21 main_v62 (broadcastInDim S4x4096x1 ![0, 1] bcast_S4x4096_S4x4096x1_0_1 : (⟨S4x4096, .i32⟩ : BufTy).Contents (Elt F) → (⟨S4x4096x1, .i32⟩ : BufTy).Contents (Elt F)) ]

set_option maxRecDepth 8192 in
set_option maxHeartbeats 4000000 in
theorem main_steps (c : Dev nD) : main (F := F) c = seq steps := rfl
theorem no_scoped_refs : (Finset.univ.filter fun b : Ref sig .tc => b.isScoped) = ∅ := by decide
theorem no_scoped_sems : (Finset.univ.filter fun sm : SemLoc sig => sm.isScoped .tc) = ∅ := by decide
set_option maxRecDepth 8192 in
theorem steps_bufs : (steps : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., nullary_bufs_sub .., nullary_bufs_sub .., quaternary_bufs_sub .., quaternary_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., nullary_bufs_sub .., binary_bufs_sub .., unary_bufs_sub .., unary_bufs_sub .., binary_bufs_sub .., reshape_bufs_sub .., binary_bufs_sub .., nullary_bufs_sub .., binary_bufs_sub .., nullary_bufs_sub .., binary_bufs_sub .., nullary_bufs_sub .., binary_bufs_sub .., nullary_bufs_sub .., binary_bufs_sub .., binary_bufs_sub .., unary_bufs_sub ..⟩

set_option maxRecDepth 8192 in
set_option maxHeartbeats 40000000 in
/-- On every device, from any memory with zero counters: every weakly fair execution ends with the four results at
    their steps of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = weights (probs (logitsOf m c))
      ∧ r.2.mem ((c.tc : Thread nD τ).loc main_v62) = column (chosen (probs (logitsOf m c)))
      ∧ r.2.mem ((c.tc : Thread nD τ).loc main_v18) = probs (logitsOf m c)
      ∧ r.2.mem ((c.tc : Thread nD τ).loc main_v61) = aux (logitsOf m c) (probs (logitsOf m c)) (chosen (probs (logitsOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v20).trans (by simp only [steps, TRef.nullary, TRef.quaternary, TRef.binary, TRef.ternary, TRef.unary, TRef.toBuf, TRef.ofBuf, cast_eq]; after_results_simp <;> rfl),
      (h c main_v62).trans (by simp only [steps, TRef.nullary, TRef.quaternary, TRef.binary, TRef.ternary, TRef.unary, TRef.toBuf, TRef.ofBuf, cast_eq]; after_results_simp <;> rfl),
      (h c main_v18).trans (by simp only [steps, TRef.nullary, TRef.quaternary, TRef.binary, TRef.ternary, TRef.unary, TRef.toBuf, TRef.ofBuf, cast_eq]; after_results_simp <;> rfl),
      (h c main_v61).trans (by simp only [steps, TRef.nullary, TRef.quaternary, TRef.binary, TRef.ternary, TRef.unary, TRef.toBuf, TRef.ofBuf, cast_eq]; after_results_simp <;> rfl),
      (h c main_arg0).trans (by simp only [steps, TRef.nullary, TRef.quaternary, TRef.binary, TRef.ternary, TRef.unary, TRef.toBuf, TRef.ofBuf, cast_eq]; after_results_simp <;> rfl),
      (h c main_arg1).trans (by simp only [steps, TRef.nullary, TRef.quaternary, TRef.binary, TRef.ternary, TRef.unary, TRef.toBuf, TRef.ofBuf, cast_eq]; after_results_simp <;> rfl),
      (h c main_arg2).trans (by simp only [steps, TRef.nullary, TRef.quaternary, TRef.binary, TRef.ternary, TRef.unary, TRef.toBuf, TRef.ofBuf, cast_eq]; after_results_simp <;> rfl),
      (h c main_arg3).trans (by simp only [steps, TRef.nullary, TRef.quaternary, TRef.binary, TRef.ternary, TRef.unary, TRef.toBuf, TRef.ofBuf, cast_eq]; after_results_simp <;> rfl)⟩)
    (run_seq no_scoped_refs no_scoped_sems defs main (fun _ => steps) main_steps (fun _ => steps_bufs) m ρ)

end Cert.RouterRef

end
-- ==== Proof.RefRead.lean ====
/-
  The reference's steps read at one token: its logits are the token's row, and what the reference makes of them is what
  Row.lean says of a row.
-/
module

public import proofs.«01_k».proof.Proof.RefRun
public import proofs.«01_k».proof.Proof.Block
public import Idealize.ShloMosaic.Lib.Pointwise

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

theorem neg_inf : Ideal.ofBits .f32 0xFF800000#32 = ⊥ := by simp [Ideal.ofBits, Ideal.ieee]
theorem inf : Ideal.ofBits .f32 0x7F800000#32 = ⊤ := by simp [Ideal.ofBits, Ideal.ieee]

/-- The logits of token (a, s). -/
def rowAt (L : FVec Ideal S4x4096x64 .f32) (a : Fin 4) (s : Fin 4096) : Row := fun e => L (ix3 a s e)

theorem logits_row (x : FVec Ideal S4x4096x2048 .f32) (b t : FVec Ideal S64 .f32) (w : FVec Ideal S2048x64 .f32) (a : Fin 4) (s : Fin 4096) :
    rowAt (logits (F := Ideal) x b t w) a s
      = rowOf (fun k => x (ix3 a s k)) (fun k e => w (ix2 k e)) (fun e => b (ix1 e)) (fun e => t (ix1 e)) := by
  funext e
  unfold rowAt logits temper perExpert rowOf
  pointwise
  rfl

theorem rowMax_apply (L : FVec Ideal S4x4096x64 .f32) (a : Fin 4) (s : Fin 4096) :
    rowMax (F := Ideal) L (ix2 a s) = top (rowAt L a s) := by
  unfold rowMax top rowAt
  pointwise
  rw [neg_inf]

theorem rowSum_apply (L : FVec Ideal S4x4096x64 .f32) (a : Fin 4) (s : Fin 4096) :
    rowSum (F := Ideal) L (ix2 a s) = ∑ e, rowAt L a s e := by
  unfold rowSum rowAt
  pointwise

theorem expo_apply (L : FVec Ideal S4x4096x64 .f32) (a : Fin 4) (s : Fin 4096) (e : Fin 64) :
    expo (F := Ideal) L (ix3 a s e) = num (rowAt L a s) e := by
  unfold expo across column num
  pointwise
  rw [rowMax_apply, neg_inf, bot_sup_eq]
  rfl

theorem probs_row (L : FVec Ideal S4x4096x64 .f32) (a : Fin 4) (s : Fin 4096) :
    rowAt (probs (F := Ideal) L) a s = refProb (rowAt L a s) := by
  funext e
  unfold probs refProb mass
  unfold rowAt across column
  pointwise
  rw [rowSum_apply, expo_apply]
  unfold rowAt
  simp only [expo_apply]
  rfl

theorem weights_apply (p : FVec Ideal S4x4096x64 .f32) (a : Fin 4) (s : Fin 4096) :
    weights (F := Ideal) p (ix3 a s 0) = top (rowAt p a s) := by
  unfold weights column
  pointwise
  exact rowMax_apply p a s

end Cert.RouterRef

end
-- ==== Proof.RefLse.lean ====
/-
  The reference's log-sum-exp of one token.
-/
module

public import proofs.«01_k».proof.Proof.RefRead

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

theorem takenOut_apply (L : FVec Ideal S4x4096x64 .f32) (a : Fin 4) (s : Fin 4096) :
    takenOut (F := Ideal) L (ix3 a s 0) = refTop (rowAt L a s) := by
  have h : column (rowMax (F := Ideal) L) (ix3 a s 0) = top (rowAt L a s) := by
    unfold column
    pointwise
    exact rowMax_apply L a s
  unfold takenOut refTop
  pointwise
  rw [h, inf]
  refine congrArg (ite _ _) ?_
  exact Ideal.ofBits_zero_f32

theorem lse_apply (L : FVec Ideal S4x4096x64 .f32) (a : Fin 4) (s : Fin 4096) :
    lse (F := Ideal) L (ix2 a s) = refLse (rowAt L a s) := by
  have h : ∀ e, rowAt (Host.exp (subf L (across (takenOut (F := Ideal) L)))) a s e = Ideal.exp (rowAt L a s e - refTop (rowAt L a s)) := by
    intro e
    unfold rowAt across
    pointwise
    rw [takenOut_apply]
    rfl
  unfold lse refLse
  refine (shapeCast_apply (s := S4x4096x1) (t := S4x4096) _ _ (ix2 a s) (ix3 a s 0) ?_).trans ?_
  · rw [Shape.rowMajor_val_three, Shape.rowMajor_val_two]
    show (a.val * 4096 + s.val) * 1 + 0 = a.val * 4096 + s.val
    omega
  · show Ideal.log (column (rowSum (Host.exp (subf L (across (takenOut (F := Ideal) L))))) (ix3 a s 0)) + takenOut (F := Ideal) L (ix3 a s 0) = _
    rw [takenOut_apply]
    have hc : column (rowSum (Host.exp (subf L (across (takenOut (F := Ideal) L))))) (ix3 a s 0)
        = ∑ e, Ideal.exp (rowAt L a s e - refTop (rowAt L a s)) := by
      unfold column
      pointwise
      rw [rowSum_apply]
      exact Finset.sum_congr rfl fun e _ => h e
    rw [hc]

end Cert.RouterRef

end
-- ==== Proof.RefPick.lean ====
/-
  The expert the reference chooses for one token: the best one of its row of probabilities.
-/
module

public import proofs.«01_k».proof.Proof.RefRead
public import Idealize.ShloMosaic.PureOps.Ideal.Laws

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

/-- The reducer on two (value, index) pairs: the larger value, the first pair's index where its value is larger, or equal
    with the smaller index. -/
theorem reducer_apply (p q : EReal × BitVec 32) : reducer_argmax_f32_i32 (F := Ideal) p q
    = (if q.1 < p.1 then p.1 else q.1, if q.1 < p.1 ∨ (p.1 = q.1 ∧ p.2.slt q.2) then p.2 else q.2) := by
  unfold reducer_argmax_f32_i32
  simp only [Ideal.cmpf_def, Ideal.cmp, Scalar.select, IntOp.ori, IntOp.andi, IntOp.cmpi]
  by_cases h1 : q.1 < p.1
  · have hv : ∀ v : Bool, (1#1 ||| BitVec.ofBool v) = 1#1 := by decide
    simp [h1, hv]
  · by_cases h2 : p.1 = q.1
    · by_cases h3 : p.2.slt q.2 <;> simp [h2, h3]
    · simp [h1, h2]

theorem chosen_apply (p : FVec Ideal S4x4096x64 .f32) (a : Fin 4) (s : Fin 4096) (b : Fin 64) (h : Best (rowAt p a s) b) :
    chosen (F := Ideal) p (ix2 a s) = BitVec.ofNat 32 b.val := by
  have hfold : Host.argReduce reducer_argmax_f32_i32 p (iotaInDim S4x4096x64 32 2) (constant (F := Ideal) S_ .f32 0xFF800000#32)
      (constantI S_ 32 0#32) reducesTo_S4x4096x64_S4x4096_d2 h_S_ (ix2 a s) = (rowAt p a s b, BitVec.ofNat 32 b.val) := by
    rw [Ideal.argReduce_eq_reduce2, Host.reduce2_eq_foldl_fiber]
    have hmem : ∀ q : EReal × BitVec 32, q ∈ Host.argReduceFiber p (iotaInDim S4x4096x64 32 2) reducesTo_S4x4096x64_S4x4096_d2 (ix2 a s)
        ↔ ∃ e : Fin 64, q = (rowAt p a s e, BitVec.ofNat 32 e.val) := by
      intro q
      unfold Host.argReduceFiber
      simp only [List.mem_map, List.mem_filter, List.mem_finRange, true_and, decide_eq_true_eq]
      constructor
      · rintro ⟨n, hn, rfl⟩
        generalize S4x4096x64.rowMajor.symm n = i at hn
        have h0 : (reducesTo_S4x4096x64_S4x4096_d2.drop i 0 : Nat) = i 0 := Shape.ReducesTo.drop_apply_val _ i 0
        have h1 : (reducesTo_S4x4096x64_S4x4096_d2.drop i 1 : Nat) = i 1 := Shape.ReducesTo.drop_apply_val _ i 1
        rw [hn] at h0 h1
        have hi : i = ix3 a s (i 2) := by
          rw [eq_ix3 i]
          congr 1
          · exact Fin.ext h0.symm
          · exact Fin.ext h1.symm
        refine ⟨i 2, ?_⟩
        rw [hi]
        rfl
      · rintro ⟨e, rfl⟩
        refine ⟨S4x4096x64.rowMajor (ix3 a s e), ?_, ?_⟩
        · rw [Equiv.symm_apply_apply]
          funext d
          match d with
          | ⟨0, _⟩ => exact Fin.ext (Shape.ReducesTo.drop_apply_val reducesTo_S4x4096x64_S4x4096_d2 (ix3 a s e) 0)
          | ⟨1, _⟩ => exact Fin.ext (Shape.ReducesTo.drop_apply_val reducesTo_S4x4096x64_S4x4096_d2 (ix3 a s e) 1)
        · rw [Equiv.symm_apply_apply]
          rfl
    refine foldl_best _ _ _ ?_ ?_ ?_ ?_ ?_ _ (.inl ⟨?_, ?_⟩)
    · intro q hq
      rw [reducer_apply]
      simp [hq.not_gt, hq.ne]
    · intro q hq
      rw [reducer_apply]
      simp [hq]
    · rw [reducer_apply]
      simp
    · intro q r hq hr
      rw [reducer_apply]
      by_cases hqr : r.1 < q.1 <;> simp [hqr, hq, hr]
    · intro q hq
      obtain ⟨e, rfl⟩ := (hmem q).1 hq
      by_cases he : e = b
      · rw [he]; exact .inl rfl
      · exact .inr (h.lt e he)
    · show Ideal.ofBits .f32 0xFF800000#32 < _
      rw [neg_inf]
      exact bot_lt_iff_ne_bot.2 h.ne_bot
    · exact (hmem _).2 ⟨b, rfl⟩
  unfold chosen
  rw [hfold]

end Cert.RouterRef

end
-- ==== Proof.RefCount.lean ====
/-
  The reference's counts: how many tokens chose each expert.
-/
module

public import proofs.«01_k».proof.Proof.RefRun
public import Idealize.ShloMosaic.Lib.Pointwise
public import Idealize.ShloMosaic.Lib.Routing.OpsPair

@[expose] public section

noncomputable section

namespace Cert.RouterRef

open Cert.ReferenceIdeal Cert.ReferenceIdeal.Gen Idealize.ShloMosaic Idealize.ShloMosaic.TcCoe Idealize.SL.Sem
open Idealize.ShloMosaic.StableHlo

/-- A left fold that adds one at some places counts them. -/
theorem foldl_ones {α : Type} (P : α → Prop) [DecidablePred P] (xs : List α) (z : Nat) :
    xs.foldl (fun (w : BitVec 32) n => if P n then IntOp.addi w 1#32 else w) (BitVec.ofNat 32 z)
      = BitVec.ofNat 32 (z + xs.countP fun n => decide (P n)) := by
  induction xs generalizing z with
  | nil => simp
  | cons a xs ih =>
    rw [List.foldl_cons, List.countP_cons]
    by_cases h : P a
    · rw [if_pos h, show IntOp.addi (BitVec.ofNat 32 z) 1#32 = BitVec.ofNat 32 (z + 1) from (BitVec.ofNat_add z 1).symm, ih]
      simp [h]; congr 1; omega
    · rw [if_neg h, ih]; simp [h]

/-- A count over a list of all of `Fin N` is the size of the filtered set. -/
theorem countP_card {N : Nat} (P : Fin N → Prop) [DecidablePred P] :
    (List.finRange N).countP (fun n => decide (P n)) = (Finset.univ.filter P).card := by
  rw [← Multiset.coe_countP (p := P), Multiset.countP_eq_card_filter]
  rfl

/-- Where update `n` lands: at the entry its index names. -/
theorem lands (idx : IVec S16384x1 32) (n : Fin 16384) (e : Fin 64) :
    scatter_S64_S16384x1_S16384_n_0_0_1.resultIdx? (ix1 n) idx = some (ix1 e) ↔ (idx (ix2 n 0)).toInt = (e.val : Int) := by
  refine (Routing.resultIdx?_ix1 (N := 64) scatter_S64_S16384x1_S16384_n_0_0_1 (ix1 n) idx e).trans ?_
  have hw : scatter_S64_S16384x1_S16384_n_0_0_1.window (ix1 n) 0 = 0 := rfl
  have hs : scatter_S64_S16384x1_S16384_n_0_0_1.start (ix1 n) idx 0 = (idx (ix2 n 0)).toInt := by
    unfold ScatterDims.start
    refine (dif_pos (show (0 : Fin S64.rank) ∈ scatter_S64_S16384x1_S16384_n_0_0_1.scatterDimsToOperandDims from
      List.mem_singleton.2 rfl)).trans ?_
    refine congrArg (fun i => (idx i).toInt) ?_
    funext d
    match d with
    | ⟨0, _⟩ => rfl
    | ⟨1, _⟩ => rfl
  rw [hw, hs]
  simp

/-- How many tokens chose expert `e`, the experts being given by `b`. -/
theorem counts_apply (k : IVec S4x4096 32) (b : Fin 16384 → Fin 64)
    (h : ∀ n : Fin 16384, k (ix2 (⟨n.val / 4096, by omega⟩ : Fin 4) (⟨n.val % 4096, by omega⟩ : Fin 4096)) = BitVec.ofNat 32 (b n).val) (e : Fin 64) :
    counts k (ix1 e) = BitVec.ofNat 32 (Finset.univ.filter fun n => b n = e).card := by
  have hs : ∀ n : Fin 16384, wrapped (slots k) (ix1 n) = BitVec.ofNat 32 (b n).val := by
    intro n
    unfold wrapped slots
    pointwise
    rw [h]
    generalize b n = q
    revert q
    decide +kernel
  have hl : ∀ n : Fin 16384, scatter_S64_S16384x1_S16384_n_0_0_1.resultIdx? (ix1 n)
      (broadcastInDim S16384x1 ![0] bcast_S16384_S16384x1_0 (wrapped (slots k))) = some (ix1 e) ↔ b n = e := by
    intro n
    rw [lands, show broadcastInDim S16384x1 ![0] bcast_S16384_S16384x1_0 (wrapped (slots k)) (ix2 n 0) = wrapped (slots k) (ix1 n) by
      pointwise, hs]
    generalize b n = q
    revert q e
    decide +kernel
  unfold counts
  rw [Routing.scatter_at]
  have hsym : ∀ n : Fin S16384.numel, S16384.rowMajor.symm n = ix1 (n.cast (Shape.numel_rank1 _) : Fin 16384) := fun n =>
    (S16384.rowMajor.symm_apply_eq).2 (Fin.ext (by rw [Shape.rowMajor_val_one]; rfl))
  have hone : ∀ i : S16384.Idx, broadcastInDim S16384 ![] bcast_S_S16384 (constantI S_ 32 1#32) i = 1#32 := fun i => rfl
  simp only [hsym, hl, hone]
  refine (foldl_ones (fun n : Fin S16384.numel => b (n.cast (Shape.numel_rank1 _)) = e) _ 0).trans ?_
  rw [Nat.zero_add]
  rw [countP_card]
  exact congrArg (BitVec.ofNat 32) (Finset.card_equiv (finCongr (Shape.numel_rank1 _)) fun n => by
    simp only [Finset.mem_filter, Finset.mem_univ, true_and]
    exact Iff.rfl)

end Cert.RouterRef

end
-- ==== Proof.RefLoss.lean ====
/-
  The reference's auxiliary loss is the kernel's: the token counts and the mean probabilities of the experts, and the mean
  square of the log-sum-exp, each as a sum over all tokens.
-/
module

public import proofs.«01_k».proof.Proof.RefLse
public import proofs.«01_k».proof.Proof.RefPick
public import proofs.«01_k».proof.Proof.RefCount
public import proofs.«01_k».proof.Proof.Arrays

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

/-- The logits of token `n`. -/
def rows (l : FVec Ideal S4x4096x64 .f32) (n : Fin 16384) : Row :=
  rowAt l (⟨n.val / 4096, by omega⟩ : Fin 4) (⟨n.val % 4096, by omega⟩ : Fin 4096)

/-- A sum over batch and position is one over all tokens. -/
theorem sum_tokens (f : Fin 4 → Fin 4096 → EReal) :
    ∑ a, ∑ s, f a s = ∑ n : Fin 16384, f (⟨n.val / 4096, by omega⟩ : Fin 4) (⟨n.val % 4096, by omega⟩ : Fin 4096) :=
  (Fin.sum_divmod_fin (N := 16384) (A := 4) 4096 f).symm

/-- Over 16384 is times `2⁻¹⁴`. -/
theorem over_tokens (x : EReal) : Ideal.div x (Ideal.ofBits .f32 0x46800000#32) = x * Ideal.ofBits .f32 0x38800000#32 := by
  have h1 : Ideal.ofBits .f32 0x46800000#32 = ((16384 : ℝ) : EReal) := by
    simp [Ideal.ofBits, Ideal.ieee, -EReal.coe_mul]; norm_num
  have h2 : Ideal.ofBits .f32 0x38800000#32 = ((1 / 16384 : ℝ) : EReal) := by
    simp [Ideal.ofBits, Ideal.ieee, -EReal.coe_mul]; norm_num
  rw [h1, h2, Ideal.div_coe (by norm_num)]

/-- The best expert of a row of logits is the best one of its probabilities. -/
theorem best_probs {l : Row} {b : Fin 64} (h : Best l b) : Best (refProb l) b := by
  obtain ⟨h1, h2, -⟩ := h.refProb_best
  obtain ⟨s, hs, hs1⟩ := h.mass_real
  refine ⟨fun e he => by rw [h1]; exact h2 e he, ?_⟩
  rw [h1, weight, hs, Ideal.div_coe (by linarith), one_mul]
  exact EReal.coe_ne_top _

section
variable (l : FVec Ideal S4x4096x64 .f32) (b : Fin 16384 → Fin 64) (hb : ∀ n, Best (rows l n) (b n))
include hb

theorem chosen_probs (n : Fin 16384) :
    chosen (F := Ideal) (probs l) (ix2 (⟨n.val / 4096, by omega⟩ : Fin 4) (⟨n.val % 4096, by omega⟩ : Fin 4096)) = BitVec.ofNat 32 (b n).val := by
  refine chosen_apply _ _ _ _ ?_
  rw [probs_row]
  exact best_probs (hb n)

theorem count_eq (e : Fin 64) : sitofp (F := Ideal) .f32 (counts (chosen (F := Ideal) (probs l))) (ix1 e)
    = ∑ n, (if pick (rows l n) = BitVec.ofNat 32 e.val then 1 else 0 : EReal) := by
  have hp : ∀ n, pick (rows l n) = BitVec.ofNat 32 e.val ↔ b n = e := by
    intro n
    rw [(hb n).pick_eq]
    generalize b n = q
    revert q e
    decide +kernel
  simp only [hp]
  show (((counts (chosen (F := Ideal) (probs l)) (ix1 e)).toInt : ℝ) : EReal) = _
  rw [counts_apply _ b (chosen_probs l b hb), Finset.sum_boole]
  have hc : (Finset.univ.filter fun n => b n = e).card ≤ 16384 := by
    simpa using Finset.card_le_univ (Finset.univ.filter fun n => b n = e)
  generalize (Finset.univ.filter fun n => b n = e).card = z at hc
  have hz : (BitVec.ofNat 32 z).toInt = (z : ℤ) := by
    rw [BitVec.toInt_ofNat']; simp [Int.bmod]; omega
  rw [hz]
  simp

theorem probSum_eq (e : Fin 64) : Ideal.hostReduceAdd reducesTo_S4x4096x64_S64_d0_1 (probs (F := Ideal) l) 0 (ix1 e)
    = ∑ n, prob (rows l n) e := by
  simp only [(hb _).prob_eq]
  trans ∑ a : Fin 4, ∑ s : Fin 4096, probs (F := Ideal) l (ix3 a s e)
  · unfold Ideal.hostReduceAdd
    rw [zero_add, ← Fintype.sum_prod_type' (f := fun a s => probs (F := Ideal) l (ix3 a s e))]
    have hd : ∀ i : S4x4096x64.Idx, reducesTo_S4x4096x64_S64_d0_1.drop i = ix1 e ↔ i 2 = e := by
      intro i
      have h0 : (reducesTo_S4x4096x64_S64_d0_1.drop i 0 : Nat) = i 2 := Shape.ReducesTo.drop_apply_val _ i 0
      constructor
      · intro h
        rw [h] at h0
        exact Fin.ext h0.symm
      · intro h
        funext d
        match d with
        | ⟨0, _⟩ => exact Fin.ext (h0.trans (congrArg Fin.val h))
    refine Finset.sum_nbij' (fun i => ((i 0 : Fin 4), (i 1 : Fin 4096))) (fun x => ix3 x.1 x.2 e) (fun _ _ => Finset.mem_univ _)
      (fun x _ => Finset.mem_filter.2 ⟨Finset.mem_univ _, (hd _).2 rfl⟩) ?_ (fun _ _ => rfl) ?_
    · intro i hi
      have := (hd i).1 (Finset.mem_filter.1 hi).2
      rw [← this]
      exact (eq_ix3 i).symm
    · intro i hi
      have := (hd i).1 (Finset.mem_filter.1 hi).2
      rw [← this]
      exact congrArg _ (eq_ix3 i)
  · rw [sum_tokens]
    refine Finset.sum_congr rfl fun n _ => ?_
    exact congrFun (probs_row l _ _) e

theorem lseSum_eq : ∑ a : Fin 4, ∑ s : Fin 4096, lse (F := Ideal) l (ix2 a s) * lse (F := Ideal) l (ix2 a s) = ∑ n, lseSq (rows l n) := by
  rw [sum_tokens fun a s => lse (F := Ideal) l (ix2 a s) * lse (F := Ideal) l (ix2 a s)]
  refine Finset.sum_congr rfl fun n _ => ?_
  rw [lse_apply]
  exact (hb n).lseSq_eq

theorem aux_eq : aux (F := Ideal) l (probs l) (chosen (probs l)) ix0 = loss (rows l) := by
  have hc : ∀ e, FloatOps.sitofp (F := Ideal) .f32 (counts (chosen (F := Ideal) (probs l)) (ix1 e))
      = ∑ n, (if pick (rows l n) = BitVec.ofNat 32 e.val then 1 else 0 : EReal) := count_eq l b hb
  unfold aux balance zLoss loss overTokens
  pointwise
  simp only [over_tokens, hc, probSum_eq l b hb]
  rw [lseSum_eq l b hb]

end

end Cert.RouterRef

end
-- ==== Proof.Pre.lean ====
/-
  What the precondition says of one token: exactly one expert holds its largest logit, and that logit is below infinity.
-/
module

public import proofs.«01_k».proof.Proof.RefRead
public import proofs.«01_k».proof.Proof.Gen.Pre_one_best
public import Idealize.ShloMosaic.Lib.StableHlo.Predicate

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

/-- Which logits are their token's largest, as bits; and how many of them, token by token. -/
def holds (l : FVec Ideal S4x4096x64 .f32) : IVec S4x4096x64 1 := cmpf .oeq l (across (F := Ideal) (column (rowMax l)))
def holders (l : FVec Ideal S4x4096x64 .f32) : IVec S4x4096 32 :=
  Host.reduce IntOp.addi (extui 32 (holds l) (by decide)) (constantI S_ 32 0#32) reducesTo_S4x4096x64_S4x4096_d2 h_S_

theorem holds_apply (l : FVec Ideal S4x4096x64 .f32) (a : Fin 4) (s : Fin 4096) (e : Fin 64) :
    holds l (ix3 a s e) = 1#1 ↔ rowAt l a s e = top (rowAt l a s) := by
  unfold holds across column
  pointwise
  rw [rowMax_apply]
  show _ ↔ l (ix3 a s e) = _
  by_cases h : l (ix3 a s e) = top (rowAt l a s) <;> simp [h]

/-- A sum of bits is the number of those that are set. -/
theorem sum_bits {α : Type} [DecidableEq α] (g : α → BitVec 1) (s : Finset α) :
    s.fold IntOp.addi 0#32 (fun x => (g x).setWidth 32) = BitVec.ofNat 32 (s.filter fun x => g x = 1#1).card := by
  induction s using Finset.induction_on with
  | empty => rfl
  | insert x s hx ih =>
    rw [Finset.fold_insert hx, ih, Finset.filter_insert]
    by_cases h : g x = 1#1
    · rw [if_pos h, Finset.card_insert_of_notMem (fun hm => hx (Finset.mem_filter.1 hm).1), h, Nat.add_comm, BitVec.ofNat_add]
      rfl
    · have h0 : g x = 0#1 := by
        revert h; generalize g x = y; revert y; decide
      rw [if_neg h, h0]
      exact BitVec.zero_add _

theorem holders_apply (l : FVec Ideal S4x4096x64 .f32) (a : Fin 4) (s : Fin 4096) :
    holders l (ix2 a s) = BitVec.ofNat 32 (Finset.univ.filter fun e => rowAt l a s e = top (rowAt l a s)).card := by
  unfold holders
  pointwise
  refine (sum_bits (fun x => holds l (ix3 a s x)) Finset.univ).trans ?_
  simp only [holds_apply]

theorem and_bits : ∀ x y : BitVec 1, IntOp.andi x y = 1#1 → x = 1#1 ∧ y = 1#1 := by decide

theorem eq_of_bit (x y : BitVec 32) (h : IntOp.cmpi .eq x y = 1#1) : x = y := by
  by_contra hn
  have : IntOp.cmpi .eq x y = 0#1 := by
    show BitVec.ofBool (x == y) = 0#1
    rw [beq_eq_false_iff_ne.2 hn]
    rfl
  rw [this] at h
  exact absurd h (by decide)

theorem lt_of_bit (x y : EReal) (h : FloatOps.cmpf (F := Ideal) (φ := .f32) .olt x y = 1#1) : x < y := by
  by_contra hn
  have : FloatOps.cmpf (F := Ideal) (φ := .f32) .olt x y = 0#1 := by
    show BitVec.ofBool (decide (x < y)) = 0#1
    rw [decide_eq_false hn]
    rfl
  rw [this] at h
  exact absurd h (by decide)

theorem pre_apply (x : FVec Ideal S4x4096x2048 .f32) (b t : FVec Ideal S64 .f32) (w : FVec Ideal S2048x64 .f32)
    (h : Cert.Pre_one_best.fn (F := Ideal) x b t w = fun _ => 1#1) (a : Fin 4) (s : Fin 4096) :
    holders (logits x b t w) (ix2 a s) = 1#32 ∧ top (rowAt (logits (F := Ideal) x b t w) a s) < ⊤ := by
  have h1 : andi (cmpi .eq (column (holders (logits x b t w))) (broadcastInDim S4x4096x1 ![] bcast_S_S4x4096x1 (constantI S_ 32 1#32)))
      (cmpf .olt (column (rowMax (F := Ideal) (logits x b t w))) (broadcastInDim S4x4096x1 ![] bcast_S_S4x4096x1 (constant S_ .f32 0x7F800000#32)))
      (ix3 a s 0) = 1#1 := congrFun h (ix3 a s 0)
  have h2 : column (holders (logits x b t w)) (ix3 a s 0) = holders (logits x b t w) (ix2 a s) := by
    unfold column; pointwise
  have h3 : column (rowMax (F := Ideal) (logits x b t w)) (ix3 a s 0) = top (rowAt (logits (F := Ideal) x b t w) a s) := by
    unfold column; pointwise; exact rowMax_apply _ a s
  obtain ⟨h4, h5⟩ := and_bits _ _ h1
  rw [← h2, ← h3]
  have h6 : broadcastInDim S4x4096x1 ![] bcast_S_S4x4096x1 (constantI S_ 32 1#32) (ix3 a s 0) = 1#32 := by pointwise
  have h7 : broadcastInDim S4x4096x1 ![] bcast_S_S4x4096x1 (constant (F := Ideal) S_ .f32 0x7F800000#32) (ix3 a s 0) = (⊤ : EReal) := by
    pointwise
    exact inf
  exact ⟨(eq_of_bit _ _ h4).trans h6, (lt_of_bit _ _ h5).trans_eq h7⟩

/-- Every token has one best expert, and its logit is not infinite. -/
theorem pre_best (x : FVec Ideal S4x4096x2048 .f32) (b t : FVec Ideal S64 .f32) (w : FVec Ideal S2048x64 .f32)
    (h : Cert.Pre_one_best.fn (F := Ideal) x b t w = fun _ => 1#1) (a : Fin 4) (s : Fin 4096) :
    ∃ e, Best (rowAt (logits (F := Ideal) x b t w) a s) e := by
  obtain ⟨h1, h2⟩ := pre_apply x b t w h a s
  rw [holders_apply] at h1
  generalize rowAt (logits (F := Ideal) x b t w) a s = l at h1 h2 ⊢
  have hle : (Finset.univ.filter fun e => l e = top l).card ≤ 64 := (Finset.card_le_univ _).trans (by simp)
  have hc : (Finset.univ.filter fun e => l e = top l).card = 1 := by
    have := congrArg BitVec.toNat h1
    simp only [BitVec.toNat_ofNat] at this
    omega
  obtain ⟨e, he⟩ := Finset.card_eq_one.1 hc
  have hmem : ∀ e', l e' = top l ↔ e' = e := fun e' => by
    have := congrArg (e' ∈ ·) he
    simpa using this
  have htop : l e = top l := (hmem e).2 rfl
  refine ⟨e, fun e' hne => ?_, htop ▸ h2.ne⟩
  rw [htop]
  refine lt_of_le_of_ne ?_ fun h => hne ((hmem e').1 h)
  exact (Finset.le_fold_max _).2 (.inr ⟨e', Finset.mem_univ _, le_rfl⟩)

end Cert.RouterRef

end
-- ==== Proof.Value.lean ====
/-
  The four results of the two programs, one by one: the kernel's arrays are the reference's where every token has one best
  expert.
-/
module

public import proofs.«01_k».proof.Proof.RefLoss
public import proofs.«01_k».proof.Proof.Pre

@[expose] public section

noncomputable section

namespace Cert.RouterRef

open Cert.ReferenceIdeal Cert.ReferenceIdeal.Gen Cert.Router Idealize.ShloMosaic Idealize.ShloMosaic.TcCoe Idealize.SL.Sem
open Idealize.ShloMosaic.StableHlo

/-- Token (a, s) in the flat order. -/
def flat (a : Fin 4) (s : Fin 4096) : Fin 16384 := ⟨a.val * 4096 + s.val, by omega⟩

theorem rows_flat (l : FVec Ideal S4x4096x64 .f32) (a : Fin 4) (s : Fin 4096) : rows l (flat a s) = rowAt l a s := by
  have h1 : (⟨(flat a s).val / 4096, by omega⟩ : Fin 4) = a := Fin.ext (by show (a.val * 4096 + s.val) / 4096 = a.val; omega)
  have h2 : (⟨(flat a s).val % 4096, by omega⟩ : Fin 4096) = s := Fin.ext (by show (a.val * 4096 + s.val) % 4096 = s.val; omega)
  unfold rows
  rw [h1, h2]

/-- The kernel's host reshapes, read at a token. -/
theorem tokens_one {α : Type} (f : Cert.KernelIdeal.S16384x1.Idx → α) (a : Fin 4) (s : Fin 4096) :
    shapeCast Cert.KernelIdeal.S4x4096x1 f Cert.KernelIdeal.Gen.shapeCasts_S16384x1_S4x4096x1 (ix3 a s 0) = f (ix2 (flat a s) 0) := by
  refine shapeCast_apply (s := Cert.KernelIdeal.S16384x1) (t := Cert.KernelIdeal.S4x4096x1) _ _ (ix3 a s 0) (ix2 (flat a s) 0) ?_
  rw [Shape.rowMajor_val_three, Shape.rowMajor_val_two]
  show (a.val * 4096 + s.val) * 1 + 0 = (a.val * 4096 + s.val) * 1 + 0
  rfl

theorem tokens_experts {α : Type} (f : Cert.KernelIdeal.S16384x64.Idx → α) (a : Fin 4) (s : Fin 4096) (e : Fin 64) :
    shapeCast Cert.KernelIdeal.S4x4096x64 f Cert.KernelIdeal.Gen.shapeCasts_S16384x64_S4x4096x64 (ix3 a s e) = f (ix2 (flat a s) e) := by
  refine shapeCast_apply (s := Cert.KernelIdeal.S16384x64) (t := Cert.KernelIdeal.S4x4096x64) _ _ (ix3 a s e) (ix2 (flat a s) e) ?_
  rw [Shape.rowMajor_val_three, Shape.rowMajor_val_two]
  show (a.val * 4096 + s.val) * 64 + e.val = (a.val * 4096 + s.val) * 64 + e.val
  rfl

section
variable (l : FVec Ideal S4x4096x64 .f32) (hb : ∀ a s, ∃ e, Best (rowAt l a s) e)
include hb

theorem weights_eq : weights (F := Ideal) (probs l)
    = shapeCast Cert.KernelIdeal.S4x4096x1 (fun i => weight (rows l (i 0)) : FVec Ideal Cert.KernelIdeal.S16384x1 .f32)
        Cert.KernelIdeal.Gen.shapeCasts_S16384x1_S4x4096x1 := by
  funext j
  obtain ⟨a, s, u, rfl⟩ : ∃ (a : Fin 4) (s : Fin 4096) (u : Fin 1), j = ix3 a s u := ⟨j 0, j 1, j 2, eq_ix3 j⟩
  obtain rfl : u = 0 := Subsingleton.elim _ _
  obtain ⟨e, he⟩ := hb a s
  refine (weights_apply _ a s).trans (Eq.trans ?_ (tokens_one _ a s).symm)
  rw [probs_row]
  show _ = weight (rows l (flat a s))
  rw [rows_flat]
  exact he.weight_eq

theorem picks_eq : column (chosen (F := Ideal) (probs l))
    = shapeCast Cert.KernelIdeal.S4x4096x1 (fun i => pick (rows l (i 0)) : IVec Cert.KernelIdeal.S16384x1 32)
        Cert.KernelIdeal.Gen.shapeCasts_S16384x1_S4x4096x1 := by
  funext j
  obtain ⟨a, s, u, rfl⟩ : ∃ (a : Fin 4) (s : Fin 4096) (u : Fin 1), j = ix3 a s u := ⟨j 0, j 1, j 2, eq_ix3 j⟩
  obtain rfl : u = 0 := Subsingleton.elim _ _
  obtain ⟨e, he⟩ := hb a s
  have h1 : column (chosen (F := Ideal) (probs l)) (ix3 a s 0) = chosen (F := Ideal) (probs l) (ix2 a s) := by
    unfold column; pointwise
  refine h1.trans (Eq.trans ?_ (tokens_one _ a s).symm)
  show _ = pick (rows l (flat a s))
  rw [rows_flat, he.pick_eq]
  refine chosen_apply _ a s e ?_
  rw [probs_row]
  exact best_probs he

theorem probs_eq : probs (F := Ideal) l
    = shapeCast Cert.KernelIdeal.S4x4096x64 (fun i => prob (rows l (i 0)) (i 1) : FVec Ideal Cert.KernelIdeal.S16384x64 .f32)
        Cert.KernelIdeal.Gen.shapeCasts_S16384x64_S4x4096x64 := by
  funext j
  obtain ⟨a, s, e, rfl⟩ : ∃ (a : Fin 4) (s : Fin 4096) (e : Fin 64), j = ix3 a s e := ⟨j 0, j 1, j 2, eq_ix3 j⟩
  obtain ⟨b, hb⟩ := hb a s
  refine (congrFun (probs_row l a s) e).trans (Eq.trans ?_ (tokens_experts _ a s e).symm)
  show _ = prob (rows l (flat a s)) e
  rw [rows_flat]
  exact (hb.prob_eq e).symm

theorem loss_eq : aux (F := Ideal) l (probs l) (chosen (probs l))
    = shapeCast Cert.KernelIdeal.S_ (fun _ => loss (rows l) : FVec Ideal Cert.KernelIdeal.S1x1 .f32) Cert.KernelIdeal.Gen.shapeCasts_S1x1_S_ := by
  funext j
  choose b hb using fun n : Fin 16384 => hb (⟨n.val / 4096, by omega⟩ : Fin 4) (⟨n.val % 4096, by omega⟩ : Fin 4096)
  obtain rfl : j = ix0 := funext fun d => d.elim0
  exact aux_eq l b hb

end

/-- The rows of the reference's logits are the kernel's rows. -/
theorem rows_logits (m : (ℓ : Loc Cert.KernelIdeal.nD Cert.KernelIdeal.τ Cert.KernelIdeal.sig) → Buf (Elt Ideal) ℓ) (c : Dev Cert.KernelIdeal.nD) :
    rows (logits (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)))
      = tokRow m c := by
  funext n
  exact logits_row _ _ _ _ _ _

end Cert.RouterRef

end
-- ==== Proof.lean ====
/-
  The certificate of the router kernel: the three programs run and leave every semaphore at zero, the idealized kernel is the
  kernel's own text, and over the extended reals its four results are the reference's where every token has one best expert.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_one_best
public import proofs.«01_k».proof.Proof.Arrays
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and has no semaphores to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run _ _ _).mono (fun r h => ⟨fun c => (h c).2.2.2.2, sem_eq_zero_of_no_sems (by decide) r.2⟩) (Cert.RouterRef.run m g)

/-- Over the extended reals the kernel's four results are the reference's. -/
theorem same_results : Cert.algebraic_KernelIdeal_ReferenceIdeal := by
  intro m g m' g' hpre hargs
  have hl : ∀ c, Cert.RouterRef.logitsOf m' c = Cert.RouterRef.logits (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) := by
    intro c
    obtain ⟨h0, h1, h2, h3⟩ := hargs c
    unfold Cert.RouterRef.logitsOf
    rw [← h0, ← h1, ← h2, ← h3]
  have hb : ∀ c a s, ∃ e, Cert.Router.Best (Cert.RouterRef.rowAt (Cert.RouterRef.logitsOf m' c) a s) e := by
    intro c a s
    rw [hl c]
    exact Cert.RouterRef.pre_best _ _ _ _ (hpre c) a s
  have hr : ∀ c, Cert.RouterRef.rows (Cert.RouterRef.logitsOf m' c) = Cert.Router.tokRow m c := by
    intro c
    rw [hl c]
    exact Cert.RouterRef.rows_logits m c
  refine ⟨_, _, _, _, Cert.Router.run m g, (θ_run _ _ _).mono (fun r h c => ?_) (Cert.RouterRef.run m' g')⟩
  obtain ⟨h0, h1, h2, h3, ha⟩ := h c
  refine ⟨h0.trans ?_, h1.trans ?_, h2.trans ?_, h3.trans ?_, ha⟩
  · rw [← hr c]; exact Cert.RouterRef.weights_eq _ (hb c)
  · rw [← hr c]; exact Cert.RouterRef.picks_eq _ (hb c)
  · rw [← hr c]; exact Cert.RouterRef.probs_eq _ (hb c)
  · rw [← hr c]; exact Cert.RouterRef.loss_eq _ (hb c)

theorem claim : Cert.Claim := ⟨Cert.Kernel.Gen.facts, Cert.KernelIdeal.Gen.facts, Cert.ReferenceIdeal.Gen.facts, Cert.Pre_one_best.Gen.facts,
  fun m ρ _ => Cert.Kernel.Gen.frame m ρ,
  fun m ρ _ => Cert.Kernel.Gen.frame m ρ,
  fun m ρ _ => Cert.KernelIdeal.Gen.frame m ρ,
  fun m ρ _ => reference_frame m ρ,
  fun m ρ _ => reference_frame m ρ,
  True.intro,
  same_results⟩

end Cert.Proof

end
